-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_v91) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel3_Kernel3Ideal
    ∧ algebraic_Kernel3Ideal_Reference3Ideal (hKernel3Ideal := hKernel3Ideal) (hReference3Ideal := hReference3Ideal)
-- ==== Kernel.lean ====
abbrev S32768x9984 : Shape := ⟨2, ![32768, 9984]⟩
abbrev S32768x128 : Shape := ⟨2, ![32768, 128]⟩
abbrev S1x8 : Shape := ⟨2, ![1, 8]⟩
abbrev S1x128 : Shape := ⟨2, ![1, 128]⟩
abbrev S8 : Shape := ⟨1, ![8]⟩
abbrev S_ : Shape := ⟨0, ![]⟩
abbrev S1 : Shape := ⟨1, ![1]⟩
abbrev S2 : Shape := ⟨1, ![2]⟩
abbrev S128 : Shape := ⟨1, ![128]⟩
abbrev S32768x1024 : Shape := ⟨2, ![32768, 1024]⟩
abbrev S512x4096 : Shape := ⟨2, ![512, 4096]⟩
abbrev S512x128 : Shape := ⟨2, ![512, 128]⟩
abbrev S512x1024 : Shape := ⟨2, ![512, 1024]⟩
abbrev S8x128x128 : Shape := ⟨3, ![8, 128, 128]⟩
abbrev S4x8x128x128 : Shape := ⟨4, ![4, 8, 128, 128]⟩
abbrev S4x8x128x256 : Shape := ⟨4, ![4, 8, 128, 256]⟩
abbrev S128x128 : Shape := ⟨2, ![128, 128]⟩
abbrev S128x1 : Shape := ⟨2, ![128, 1]⟩
abbrev S1x1 : Shape := ⟨2, ![1, 1]⟩
abbrev S1x1x128x128 : Shape := ⟨4, ![1, 1, 128, 128]⟩
abbrev S1x1x128x256 : Shape := ⟨4, ![1, 1, 128, 256]⟩
abbrev S128x256 : Shape := ⟨2, ![128, 256]⟩
abbrev S1x128x128 : Shape := ⟨3, ![1, 128, 128]⟩

abbrev nBuf : Space → Nat
  | .hbm => 26
  | .vmem => 20
  | .smem => 0
  | _ => 0

abbrev bufTy : (tb : Table) → Fin (tcTables nBuf tb) → BufTy
  | .hbm, ⟨0, _⟩ => ⟨S32768x9984, .bf16⟩
  | .hbm, ⟨1, _⟩ => ⟨S32768x128, .f32⟩
  | .hbm, ⟨2, _⟩ => ⟨S1x8, .f32⟩
  | .hbm, ⟨3, _⟩ => ⟨S1x8, .f32⟩
  | .hbm, ⟨4, _⟩ => ⟨S1x128, .f32⟩
  | .hbm, ⟨5, _⟩ => ⟨S8, .f32⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S8, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S128, .f32⟩
  | .hbm, ⟨24, _⟩ => ⟨S1x128, .f32⟩
  | .hbm, ⟨25, _⟩ => ⟨S32768x1024, .bf16⟩
  | .local _ .vmem, ⟨0, _⟩ => ⟨S512x4096, .bf16⟩
  | .local _ .vmem, ⟨1, _⟩ => ⟨S512x4096, .bf16⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S8x128x128, .f32⟩
  | .local _ .vmem, ⟨10, _⟩ => ⟨S4x8x128x128, .bf16⟩
  | .local _ .vmem, ⟨11, _⟩ => ⟨S4x8x128x128, .bf16⟩
  | .local _ .vmem, ⟨12, _⟩ => ⟨S4x8x128x128, .bf16⟩
  | .local _ .vmem, ⟨13, _⟩ => ⟨S4x8x128x256, .f32⟩
  | .local _ .vmem, ⟨14, _⟩ => ⟨S4x8x128x128, .f32⟩
  | .local _ .vmem, ⟨15, _⟩ => ⟨S4x8x128x128, .bf16⟩
  | .local _ .vmem, ⟨16, _⟩ => ⟨S4x8x128x128, .bf16⟩
  | .local _ .vmem, ⟨17, _⟩ => ⟨S4x8x128x128, .f32⟩
  | .local _ .vmem, ⟨18, _⟩ => ⟨S4x8x128x128, .f32⟩
  | .local _ .vmem, ⟨19, _⟩ => ⟨S4x8x128x128, .f32⟩
  | _, _ => ⟨S32768x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32768x9984 : Shape := ⟨2, ![32768, 9984]⟩
abbrev S32768x128 : Shape := ⟨2, ![32768, 128]⟩
abbrev S1x8 : Shape := ⟨2, ![1, 8]⟩
abbrev S1x128 : Shape := ⟨2, ![1, 128]⟩
abbrev S32768x4096 : Shape := ⟨2, ![32768, 4096]⟩
abbrev S8x4096x4x8x128 : Shape := ⟨5, ![8, 4096, 4, 8, 128]⟩
abbrev S8x4096x1x8x128 : Shape := ⟨5, ![8, 4096, 1, 8, 128]⟩
abbrev S8x4096x8x128 : Shape := ⟨4, ![8, 4096, 8, 128]⟩
abbrev S4096x8x8x128 : Shape := ⟨4, ![4096, 8, 8, 128]⟩
abbrev S8x4096x128 : Shape := ⟨3, ![8, 4096, 128]⟩
abbrev S4096x8x128 : Shape := ⟨3, ![4096, 8, 128]⟩
abbrev S4096x8x8 : Shape := ⟨3, ![4096, 8, 8]⟩
abbrev S_ : Shape := ⟨0, ![]⟩
abbrev S8 : Shape := ⟨1, ![8]⟩
abbrev S1x1x8 : Shape := ⟨3, ![1, 1, 8]⟩
abbrev S8x8x128x128 : Shape := ⟨4, ![8, 8, 128, 128]⟩
abbrev S1x8x8x128 : Shape := ⟨4, ![1, 8, 8, 128]⟩
abbrev S8x8x128 : Shape := ⟨3, ![8, 8, 128]⟩
abbrev S1x8x8 : Shape := ⟨3, ![1, 8, 8]⟩
abbrev S8x8 : Shape := ⟨2, ![8, 8]⟩
abbrev S8x8x128x1 : Shape := ⟨4, ![8, 8, 128, 1]⟩
abbrev S8x8x1x1 : Shape := ⟨4, ![8, 8, 1, 1]⟩
abbrev S8x8x1x128 : Shape := ⟨4, ![8, 8, 1, 128]⟩
abbrev S128 : Shape := ⟨1, ![128]⟩
abbrev S4096x8x8x1 : Shape := ⟨4, ![4096, 8, 8, 1]⟩
abbrev S1x1x1x128 : Shape := ⟨4, ![1, 1, 1, 128]⟩
abbrev S32768x1024 : Shape := ⟨2, ![32768, 1024]⟩

abbrev nBuf : Space → Nat
  | .hbm => 163
  | .vmem => 0
  | .smem => 0
  | _ => 0

abbrev hbmTy0_0 (i : Nat) : BufTy := match i % 128 with
  | 0 => ⟨S32768x9984, .bf16⟩
  | 1 => ⟨S32768x128, .f32⟩
  | 2 => ⟨S1x8, .f32⟩
  | 3 => ⟨S1x8, .f32⟩
  | 4 => ⟨S1x128, .f32⟩
  | 5 => ⟨S32768x4096, .bf16⟩
  | 6 => ⟨S32768x4096, .f32⟩
  | 7 => ⟨S8x4096x4x8x128, .f32⟩
  | 8 => ⟨S8x4096x1x8x128, .f32⟩
  | 9 => ⟨S8x4096x8x128, .f32⟩
  | 10 => ⟨S4096x8x8x128, .f32⟩
  | 11 => ⟨S8x4096x1x8x128, .f32⟩
  | 12 => ⟨S8x4096x8x128, .f32⟩
  | 13 => ⟨S4096x8x8x128, .f32⟩
  | 14 => ⟨S8x4096x1x8x128, .f32⟩
  | 15 => ⟨S8x4096x8x128, .f32⟩
  | 16 => ⟨S4096x8x8x128, .f32⟩
  | 17 => ⟨S8x4096x1x8x128, .f32⟩
  | 18 => ⟨S8x4096x8x128, .f32⟩
  | 19 => ⟨S4096x8x8x128, .f32⟩
  | 20 => ⟨S8x4096x128, .f32⟩
  | 21 => ⟨S4096x8x128, .f32⟩
  | 22 => ⟨S4096x8x8, .f32⟩
  | 23 => ⟨S4096x8x8, .f32⟩
  | 24 => ⟨S4096x8x8, .f32⟩
  | 25 => ⟨S_, .f32⟩
  | 26 => ⟨S4096x8x8, .f32⟩
  | 27 => ⟨S4096x8x8, .f32⟩
  | 28 => ⟨S_, .f32⟩
  | 29 => ⟨S4096x8x8, .f32⟩
  | 30 => ⟨S4096x8x8, .f32⟩
  | 31 => ⟨S8, .f32⟩
  | 32 => ⟨S8, .f32⟩
  | 33 => ⟨S8, .f32⟩
  | 34 => ⟨S4096x8x8, .f32⟩
  | 35 => ⟨S8, .f32⟩
  | 36 => ⟨S1x1x8, .f32⟩
  | 37 => ⟨S4096x8x8, .f32⟩
  | 38 => ⟨S4096x8x8, .f32⟩
  | 39 => ⟨S_, .f32⟩
  | 40 => ⟨S4096x8x8, .f32⟩
  | 41 => ⟨S4096x8x8, .f32⟩
  | 42 => ⟨S4096x8x8, .f32⟩
  | 43 => ⟨S4096x8x8, .f32⟩
  | 44 => ⟨S4096x8x8, .i1⟩
  | 45 => ⟨S4096x8x8, .f32⟩
  | 46 => ⟨S4096x8x8, .f32⟩
  | 47 => ⟨S4096x8x8, .f32⟩
  | 48 => ⟨S4096x8x8, .f32⟩
  | 49 => ⟨S4096x8x8, .f32⟩
  | 50 => ⟨S4096x8x8, .f32⟩
  | 51 => ⟨S4096x8x8, .f32⟩
  | 52 => ⟨S4096x8x8, .f32⟩
  | 53 => ⟨S1x1x8, .f32⟩
  | 54 => ⟨S4096x8x8, .f32⟩
  | 55 => ⟨S4096x8x8, .f32⟩
  | 56 => ⟨S_, .f32⟩
  | 57 => ⟨S8x8x128x128, .f32⟩
  | 58 => ⟨S_, .f32⟩
  | 59 => ⟨S4096x8x8x128, .f32⟩
  | 60 => ⟨S_, .i32⟩
  | 61 => ⟨S4096x8x8x128, .f32⟩
  | 62 => ⟨S4096x8x8x128, .f32⟩
  | 63 => ⟨S4096x8x8x128, .f32⟩
  | 64 => ⟨S4096x8x8, .f32⟩
  | 65 => ⟨S4096x8x8, .f32⟩
  | 66 => ⟨S_, .i32⟩
  | 67 => ⟨S8x8x128x128, .f32⟩
  | 68 => ⟨S4096x8x8x128, .f32⟩
  | 69 => ⟨S_, .i32⟩
  | 70 => ⟨S_, .i1⟩
  | 71 => ⟨S_, .i32⟩
  | 72 => ⟨S_, .i32⟩
  | 73 => ⟨S_, .i32⟩
  | 74 => ⟨S1x8x8x128, .f32⟩
  | 75 => ⟨S8x8x128, .f32⟩
  | 76 => ⟨S_, .i32⟩
  | 77 => ⟨S_, .i32⟩
  | 78 => ⟨S_, .i32⟩
  | 79 => ⟨S1x8x8x128, .f32⟩
  | 80 => ⟨S8x8x128, .f32⟩
  | 81 => ⟨S_, .i32⟩
  | 82 => ⟨S_, .i32⟩
  | 83 => ⟨S_, .i32⟩
  | 84 => ⟨S1x8x8x128, .f32⟩
  | 85 => ⟨S8x8x128, .f32⟩
  | 86 => ⟨S_, .i32⟩
  | 87 => ⟨S_, .i32⟩
  | 88 => ⟨S1x8x8, .f32⟩
  | 89 => ⟨S8x8, .f32⟩
  | 90 => ⟨S_, .i32⟩
  | 91 => ⟨S_, .i32⟩
  | 92 => ⟨S1x8x8, .f32⟩
  | 93 => ⟨S8x8, .f32⟩
  | 94 => ⟨S8x8x128x1, .f32⟩
  | 95 => ⟨S8x8x128x128, .f32⟩
  | 96 => ⟨S8x8x128x128, .f32⟩
  | 97 => ⟨S_, .f32⟩
  | 98 => ⟨S8x8x128, .f32⟩
  | 99 => ⟨S8x8, .f32⟩
  | 100 => ⟨S8x8x1x1, .f32⟩
  | 101 => ⟨S8x8x1x1, .f32⟩
  | 102 => ⟨S8x8x128x1, .f32⟩
  | 103 => ⟨S8x8x1x128, .f32⟩
  | 104 => ⟨S8x8x128x128, .f32⟩
  | 105 => ⟨S8x8x128x128, .f32⟩
  | 106 => ⟨S8x8x128x128, .f32⟩
  | 107 => ⟨S8x8x128x128, .f32⟩
  | 108 => ⟨S8x8x128x128, .f32⟩
  | 109 => ⟨S8x8x128x128, .f32⟩
  | 110 => ⟨S8x8x128x128, .f32⟩
  | 111 => ⟨S8x8x128x128, .f32⟩
  | 112 => ⟨S8x8x1x1, .f32⟩
  | 113 => ⟨S8x8x128x1, .f32⟩
  | 114 => ⟨S8x8x1x128, .f32⟩
  | 115 => ⟨S8x8x128x128, .f32⟩
  | 116 => ⟨S8x8x128x128, .f32⟩
  | 117 => ⟨S8x8x128x128, .f32⟩
  | 118 => ⟨S8x8x128x128, .f32⟩
  | 119 => ⟨S8x8x128x128, .f32⟩
  | 120 => ⟨S8x8x128x128, .f32⟩
  | 121 => ⟨S8x8x128x1, .f32⟩
  | 122 => ⟨S8x8x128x128, .f32⟩
  | 123 => ⟨S8x8x128x128, .f32⟩
  | 124 => ⟨S_, .f32⟩
  | 125 => ⟨S8x8x128, .f32⟩
  | 126 => ⟨S1x8x8x128, .f32⟩
  | 127 => ⟨S_, .i32⟩
  | _ => ⟨S32768x9984, .bf16⟩

abbrev hbmTy0_1 (i : Nat) : BufTy := match i % 128 with
  | 0 => ⟨S_, .i32⟩
  | 1 => ⟨S_, .i32⟩
  | 2 => ⟨S4096x8x8x128, .f32⟩
  | 3 => ⟨S_, .i32⟩
  | 4 => ⟨S_, .i32⟩
  | 5 => ⟨S128, .f32⟩
  | 6 => ⟨S4096x8x8x128, .f32⟩
  | 7 => ⟨S_, .f32⟩
  | 8 => ⟨S4096x8x8, .f32⟩
  | 9 => ⟨S4096x8x8x1, .f32⟩
  | 10 => ⟨S_, .f32⟩
  | 11 => ⟨S4096x8x8x1, .f32⟩
  | 12 => ⟨S4096x8x8x1, .f32⟩
  | 13 => ⟨S_, .f32⟩
  | 14 => ⟨S4096x8x8x1, .f32⟩
  | 15 => ⟨S4096x8x8x1, .f32⟩
  | 16 => ⟨S4096x8x8x1, .f32⟩
  | 17 => ⟨S4096x8x8x128, .f32⟩
  | 18 => ⟨S4096x8x8x128, .f32⟩
  | 19 => ⟨S1x1x1x128, .f32⟩
  | 20 => ⟨S4096x8x8x128, .f32⟩
  | 21 => ⟨S4096x8x8x128, .f32⟩
  | 22 => ⟨S4096x8x8x128, .f32⟩
  | 23 => ⟨S4096x8x8x128, .f32⟩
  | 24 => ⟨S_, .f32⟩
  | 25 => ⟨S4096x8x8x128, .f32⟩
  | 26 => ⟨S4096x8x8x128, .f32⟩
  | 27 => ⟨S_, .f32⟩
  | 28 => ⟨S4096x8x8x128, .f32⟩
  | 29 => ⟨S4096x8x8x128, .f32⟩
  | 30 => ⟨S4096x8x8x128, .f32⟩
  | 31 => ⟨S4096x8x8x128, .f32⟩
  | 32 => ⟨S8x4096x8x128, .f32⟩
  | 33 => ⟨S32768x1024, .f32⟩
  | 34 => ⟨S32768x1024, .bf16⟩
  | _ => ⟨S32768x9984, .bf16⟩

abbrev hbmTy (i : Nat) : BufTy := match i / 128 with
  | 0 => hbmTy0_0 i
  | 1 => hbmTy0_1 i
  | _ => ⟨S32768x9984, .bf16⟩

abbrev bufTy : (tb : Table) → Fin (tcTables nBuf tb) → BufTy
  | .hbm, ⟨i, _⟩ => hbmTy i
  | _, _ => ⟨S32768x9984, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_c : Ref sig .tc := ⟨.hbm, 60, rfl⟩
abbrev main_v38_0 : Ref sig .tc := ⟨.hbm, 61, rfl⟩
abbrev main_v38_1 : Ref sig .tc := ⟨.hbm, 62, rfl⟩
abbrev main_v38_2 : Ref sig .tc := ⟨.hbm, 63, rfl⟩
abbrev main_v38_3 : Ref sig .tc := ⟨.hbm, 64, rfl⟩
abbrev main_v38_4 : Ref sig .tc := ⟨.hbm, 65, rfl⟩
abbrev main_v38_5 : Ref sig .tc := ⟨.hbm, 66, rfl⟩
abbrev main_v38_6 : Ref sig .tc := ⟨.hbm, 67, rfl⟩
abbrev main_v38_7 : Ref sig .tc := ⟨.hbm, 68, rfl⟩
abbrev main_while0c_c_13 : Ref sig .tc := ⟨.hbm, 69, rfl⟩
abbrev main_while0c_v58 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_v0 : Ref sig .tc := ⟨.hbm, 74, rfl⟩
abbrev main_while0b_v58 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_v0 : Ref sig .tc := ⟨.hbm, 79, rfl⟩
abbrev main_while0b_v59 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_v0 : Ref sig .tc := ⟨.hbm, 84, rfl⟩
abbrev main_while0b_v60 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_v0 : Ref sig .tc := ⟨.hbm, 88, rfl⟩
abbrev main_while0b_v61 : Ref sig .tc := ⟨.hbm, 89, rfl⟩
abbrev main_while0b_call5_c : Ref sig .tc := ⟨.hbm, 90, rfl⟩
abbrev main_while0b_call5_c_0 : Ref sig .tc := ⟨.hbm, 91, rfl⟩
abbrev main_while0b_call5_v0 : Ref sig .tc := ⟨.hbm, 92, rfl⟩
abbrev main_while0b_v62 : Ref sig .tc := ⟨.hbm, 93, rfl⟩
abbrev main_while0b_v63 : Ref sig .tc := ⟨.hbm, 94, rfl⟩
abbrev main_while0b_v64 : Ref sig .tc := ⟨.hbm, 95, rfl⟩
abbrev main_while0b_v65 : Ref sig .tc := ⟨.hbm, 96, rfl⟩
abbrev main_while0b_cst_13 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_v78 : Ref sig .tc := ⟨.hbm, 110, rfl⟩
abbrev main_while0b_v79 : Ref sig .tc := ⟨.hbm, 111, rfl⟩
abbrev main_while0b_v80 : Ref sig .tc := ⟨.hbm, 112, rfl⟩
abbrev main_while0b_v81 : Ref sig .tc := ⟨.hbm, 113, rfl⟩
abbrev main_while0b_v82 : Ref sig .tc := ⟨.hbm, 114, rfl⟩
abbrev main_while0b_v83 : Ref sig .tc := ⟨.hbm, 115, rfl⟩
abbrev main_while0b_v84 : Ref sig .tc := ⟨.hbm, 116, rfl⟩
abbrev main_while0b_v85 : Ref sig .tc := ⟨.hbm, 117, rfl⟩
abbrev main_while0b_v86 : Ref sig .tc := ⟨.hbm, 118, rfl⟩
abbrev main_while0b_v87 : Ref sig .tc := ⟨.hbm, 119, rfl⟩
abbrev main_while0b_v88 : Ref sig .tc := ⟨.hbm, 120, rfl⟩
abbrev main_while0b_v89 : Ref sig .tc := ⟨.hbm, 121, rfl⟩
abbrev main_while0b_v90 : Ref sig .tc := ⟨.hbm, 122, rfl⟩
abbrev main_while0b_v91 : Ref sig .tc := ⟨.hbm, 123, rfl⟩
abbrev main_while0b_cst_14 : Ref sig .tc := ⟨.hbm, 124, rfl⟩
abbrev main_while0b_v92 : Ref sig .tc := ⟨.hbm, 125, rfl⟩
abbrev main_while0b_call6_v0 : Ref sig .tc := ⟨.hbm, 126, rfl⟩
abbrev main_while0b_call6_c : Ref sig .tc := ⟨.hbm, 127, rfl⟩
abbrev main_while0b_call6_c_0 : Ref sig .tc := ⟨.hbm, 128, rfl⟩
abbrev main_while0b_call6_c_1 : Ref sig .tc := ⟨.hbm, 129, rfl⟩
abbrev main_while0b_v93 : Ref sig .tc := ⟨.hbm, 130, rfl⟩
abbrev main_while0b_c_15 : Ref sig .tc := ⟨.hbm, 131, rfl⟩
abbrev main_while0b_v94 : Ref sig .tc := ⟨.hbm, 132, rfl⟩
abbrev main_v39 : Ref sig .tc := ⟨.hbm, 133, rfl⟩
abbrev main_v40 : Ref sig .tc := ⟨.hbm, 134, rfl⟩
abbrev main_cst_3 : Ref sig .tc := ⟨.hbm, 135, rfl⟩
abbrev main_v41 : Ref sig .tc := ⟨.hbm, 136, rfl⟩
abbrev main_v42 : Ref sig .tc := ⟨.hbm, 137, rfl⟩
abbrev main_cst_4 : Ref sig .tc := ⟨.hbm, 138, rfl⟩
abbrev main_v43 : Ref sig .tc := ⟨.hbm, 139, rfl⟩
abbrev main_v44 : Ref sig .tc := ⟨.hbm, 140, rfl⟩
abbrev main_cst_5 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_call7_v0 : Ref sig .tc := ⟨.hbm, 150, rfl⟩
abbrev main_call7_v1 : Ref sig .tc := ⟨.hbm, 151, rfl⟩
abbrev main_call7_cst : Ref sig .tc := ⟨.hbm, 152, rfl⟩
abbrev main_call7_v2 : Ref sig .tc := ⟨.hbm, 153, rfl⟩
abbrev main_call7_v3 : Ref sig .tc := ⟨.hbm, 154, rfl⟩
abbrev main_call7_cst_0 : Ref sig .tc := ⟨.hbm, 155, rfl⟩
abbrev main_call7_v4 : Ref sig .tc := ⟨.hbm, 156, rfl⟩
abbrev main_call7_v5 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S32768x1024 : Shape := ⟨2, ![32768, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 13
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x4096 : Shape := ⟨2, ![1024, 4096]⟩
abbrev S32768x4096 : Shape := ⟨2, ![32768, 4096]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x4096, .f32⟩
  | .hbm, ⟨23, _⟩ => ⟨S32768x4096, .f32⟩
  | .hbm, ⟨24, _⟩ => ⟨S_, .f32⟩
  | .hbm, ⟨25, _⟩ => ⟨S32768x4096, .f32⟩
  | .hbm, ⟨26, _⟩ => ⟨S32768x4096, .f32⟩
  | .hbm, ⟨27, _⟩ => ⟨S32768x4096, .f32⟩
  | .hbm, ⟨28, _⟩ => ⟨S4096x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel4.lean ====
abbrev S32768x1024 : Shape := ⟨2, ![32768, 1024]⟩
abbrev S32768x9984 : Shape := ⟨2, ![32768, 9984]⟩
abbrev S1x2048 : Shape := ⟨2, ![1, 2048]⟩
abbrev S1x1024x1024 : Shape := ⟨3, ![1, 1024, 1024]⟩
abbrev S2048 : Shape := ⟨1, ![2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 17
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x9984, .bf16⟩
  | .hbm, ⟨3, _⟩ => ⟨S32768x1024, .f32⟩
  | .hbm, ⟨4, _⟩ => ⟨S1x2048, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S2048, .f32⟩
  | .hbm, ⟨9, _⟩ => ⟨S1x2048, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x2048, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S32768x1024 : Shape := ⟨2, ![32768, 1024]⟩
abbrev S32768x9984 : Shape := ⟨2, ![32768, 9984]⟩
abbrev S1x2048 : Shape := ⟨2, ![1, 2048]⟩
abbrev S1x1024x1024 : Shape := ⟨3, ![1, 1024, 1024]⟩
abbrev S32768x2048 : Shape := ⟨2, ![32768, 2048]⟩
abbrev S2048 : Shape := ⟨1, ![2048]⟩
abbrev S_ : Shape := ⟨0, ![]⟩
abbrev S32768x2x1024 : Shape := ⟨3, ![32768, 2, 1024]⟩
abbrev S32768x1x1024 : Shape := ⟨3, ![32768, 1, 1024]⟩
abbrev S1024x1024 : Shape := ⟨2, ![1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x9984, .bf16⟩
  | .hbm, ⟨3, _⟩ => ⟨S32768x1024, .f32⟩
  | .hbm, ⟨4, _⟩ => ⟨S1x2048, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S32768x2048, .bf16⟩
  | .hbm, ⟨9, _⟩ => ⟨S32768x2048, .f32⟩
  | .hbm, ⟨10, _⟩ => ⟨S2048, .f32⟩
  | .hbm, ⟨11, _⟩ => ⟨S1x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S32768x2x1024, .f32⟩
  | .hbm, ⟨23, _⟩ => ⟨S32768x1x1024, .f32⟩
  | .hbm, ⟨24, _⟩ => ⟨S32768x1024, .f32⟩
  | .hbm, ⟨25, _⟩ => ⟨S32768x1024, .f32⟩
  | .hbm, ⟨26, _⟩ => ⟨S1024x1024, .f32⟩
  | .hbm, ⟨27, _⟩ => ⟨S32768x1024, .f32⟩
  | .hbm, ⟨28, _⟩ => ⟨S32768x1024, .f32⟩
  | .hbm, ⟨29, _⟩ => ⟨S32768x1x1024, .f32⟩
  | .hbm, ⟨30, _⟩ => ⟨S32768x1024, .f32⟩
  | .hbm, ⟨31, _⟩ => ⟨S32768x1024, .f32⟩
  | .hbm, ⟨32, _⟩ => ⟨S1024x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S1024x1024, .f32⟩
  | .hbm, ⟨37, _⟩ => ⟨S32768x1024, .f32⟩
  | .hbm, ⟨38, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S1x1024x7768 : Shape := ⟨3, ![1, 1024, 7768]⟩
abbrev S1x4x3072 : Shape := ⟨3, ![1, 4, 3072]⟩
abbrev S1x1024x2048 : Shape := ⟨3, ![1, 1024, 2048]⟩
abbrev S32768x1024 : Shape := ⟨2, ![32768, 1024]⟩
abbrev S1024x7768 : Shape := ⟨2, ![1024, 7768]⟩
abbrev S1024x16 : Shape := ⟨2, ![1024, 16]⟩
abbrev S1024x8 : Shape := ⟨2, ![1024, 8]⟩
abbrev S_ : Shape := ⟨0, ![]⟩
abbrev S1024x104 : Shape := ⟨2, ![1024, 104]⟩
abbrev S1024x128 : Shape := ⟨2, ![1024, 128]⟩
abbrev S1024x64 : Shape := ⟨2, ![1024, 64]⟩
abbrev S1024x4096 : Shape := ⟨2, ![1024, 4096]⟩
abbrev S1024x2048 : Shape := ⟨2, ![1024, 2048]⟩
abbrev S1024x3584 : Shape := ⟨2, ![1024, 3584]⟩
abbrev S1024x9984 : Shape := ⟨2, ![1024, 9984]⟩
abbrev S1024 : Shape := ⟨1, ![1024]⟩
abbrev S4x3072 : Shape := ⟨2, ![4, 3072]⟩
abbrev S32768x9984 : Shape := ⟨2, ![32768, 9984]⟩
abbrev S32768x128 : Shape := ⟨2, ![32768, 128]⟩
abbrev S512x1024 : Shape := ⟨2, ![512, 1024]⟩
abbrev S512x9984 : Shape := ⟨2, ![512, 9984]⟩
abbrev S512x128 : Shape := ⟨2, ![512, 128]⟩
abbrev S4x8x768 : Shape := ⟨3, ![4, 8, 768]⟩
abbrev S520x768 : Shape := ⟨2, ![520, 768]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1x8x768 : Shape := ⟨3, ![1, 8, 768]⟩
abbrev S8x768 : Shape := ⟨2, ![8, 768]⟩
abbrev S1x768 : Shape := ⟨2, ![1, 768]⟩

abbrev nBuf : Space → Nat
  | .hbm => 28
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x7768, .f32⟩
  | .hbm, ⟨3, _⟩ => ⟨S1x4x3072, .f32⟩
  | .hbm, ⟨4, _⟩ => ⟨S1x1024x2048, .f32⟩
  | .hbm, ⟨5, _⟩ => ⟨S32768x1024, .f32⟩
  | .hbm, ⟨6, _⟩ => ⟨S1024x7768, .f32⟩
  | .hbm, ⟨7, _⟩ => ⟨S1024x7768, .bf16⟩
  | .hbm, ⟨8, _⟩ => ⟨S1024x16, .bf16⟩
  | .hbm, ⟨9, _⟩ => ⟨S1024x8, .bf16⟩
  | .hbm, ⟨10, _⟩ => ⟨S_, .bf16⟩
  | .hbm, ⟨11, _⟩ => ⟨S1024x104, .bf16⟩
  | .hbm, ⟨12, _⟩ => ⟨S1024x128, .bf16⟩
  | .hbm, ⟨13, _⟩ => ⟨S1024x64, .bf16⟩
  | .hbm, ⟨14, _⟩ => ⟨S1024x4096, .bf16⟩
  | .hbm, ⟨15, _⟩ => ⟨S1024x2048, .f32⟩
  | .hbm, ⟨16, _⟩ => ⟨S1024x2048, .bf16⟩
  | .hbm, ⟨17, _⟩ => ⟨S1024x3584, .bf16⟩
  | .hbm, ⟨18, _⟩ => ⟨S_, .bf16⟩
  | .hbm, ⟨19, _⟩ => ⟨S1024x64, .bf16⟩
  | .hbm, ⟨20, _⟩ => ⟨S_, .bf16⟩
  | .hbm, ⟨21, _⟩ => ⟨S1024x64, .bf16⟩
  | .hbm, ⟨22, _⟩ => ⟨S1024x9984, .bf16⟩
  | .hbm, ⟨23, _⟩ => ⟨S1024, .f32⟩
  | .hbm, ⟨24, _⟩ => ⟨S1x1024, .f32⟩
  | .hbm, ⟨25, _⟩ => ⟨S4x3072, .f32⟩
  | .hbm, ⟨26, _⟩ => ⟨S32768x9984, .bf16⟩
  | .hbm, ⟨27, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x9984, .bf16⟩
  | .local _ .vmem, ⟨4, _⟩ => ⟨S1024x128, .bf16⟩
  | .local _ .vmem, ⟨5, _⟩ => ⟨S4x3072, .f32⟩
  | .local _ .vmem, ⟨6, _⟩ => ⟨S512x9984, .bf16⟩
  | .local _ .vmem, ⟨7, _⟩ => ⟨S512x9984, .bf16⟩
  | .local _ .vmem, ⟨8, _⟩ => ⟨S512x128, .f32⟩
  | .local _ .vmem, ⟨9, _⟩ => ⟨S512x128, .f32⟩
  | .local _ .vmem, ⟨10, _⟩ => ⟨S4x8x768, .f32⟩
  | .local _ .vmem, ⟨11, _⟩ => ⟨S520x768, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x9984 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x9984 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x4096x1024 : Shape := ⟨3, ![8, 4096, 1024]⟩
abbrev S1x1024 : Shape := ⟨2, ![1, 1024]⟩
abbrev S1x1024x7768 : Shape := ⟨3, ![1, 1024, 7768]⟩
abbrev S1x4x3072 : Shape := ⟨3, ![1, 4, 3072]⟩
abbrev S1x1024x2048 : Shape := ⟨3, ![1, 1024, 2048]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x7768 : Shape := ⟨2, ![1024, 7768]⟩
abbrev S8x4096x7768 : Shape := ⟨3, ![8, 4096, 7768]⟩
abbrev S8x4096x8 : Shape := ⟨3, ![8, 4096, 8]⟩
abbrev S8x4096x3584 : Shape := ⟨3, ![8, 4096, 3584]⟩
abbrev S8x4096x64 : Shape := ⟨3, ![8, 4096, 64]⟩
abbrev S8x4096x3072 : Shape := ⟨3, ![8, 4096, 3072]⟩
abbrev S8x4099x3072 : Shape := ⟨3, ![8, 4099, 3072]⟩
abbrev S4x3072 : Shape := ⟨2, ![4, 3072]⟩
abbrev S1x3072 : Shape := ⟨2, ![1, 3072]⟩
abbrev S3072 : Shape := ⟨1, ![3072]⟩
abbrev S1x1x3072 : Shape := ⟨3, ![1, 1, 3072]⟩
abbrev S8x4096x8x128 : Shape := ⟨4, ![8, 4096, 8, 128]⟩
abbrev S8x4096x8x1 : Shape := ⟨4, ![8, 4096, 8, 1]⟩
abbrev S1024x2048 : Shape := ⟨2, ![1024, 2048]⟩
abbrev S8x4096x2048 : Shape := ⟨3, ![8, 4096, 2048]⟩
abbrev S8x4096x4096 : Shape := ⟨3, ![8, 4096, 4096]⟩
abbrev S8x4096x256 : Shape := ⟨3, ![8, 4096, 256]⟩
abbrev S8x4096x9984 : Shape := ⟨3, ![8, 4096, 9984]⟩
abbrev S8x4096x104 : Shape := ⟨3, ![8, 4096, 104]⟩
abbrev S8x4096x128 : Shape := ⟨3, ![8, 4096, 128]⟩
abbrev S32768x9984 : Shape := ⟨2, ![32768, 9984]⟩
abbrev S32768x128 : Shape := ⟨2, ![32768, 128]⟩

abbrev nBuf : Space → Nat
  | .hbm => 117
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x7768, .f32⟩
  | .hbm, ⟨3, _⟩ => ⟨S1x4x3072, .f32⟩
  | .hbm, ⟨4, _⟩ => ⟨S1x1024x2048, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1024x7768, .f32⟩
  | .hbm, ⟨23, _⟩ => ⟨S8x4096x7768, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x8, .f32⟩
  | .hbm, ⟨29, _⟩ => ⟨S8x4096x8, .f32⟩
  | .hbm, ⟨30, _⟩ => ⟨S8x4096x3584, .f32⟩
  | .hbm, ⟨31, _⟩ => ⟨S8x4096x64, .f32⟩
  | .hbm, ⟨32, _⟩ => ⟨S8x4096x8, .f32⟩
  | .hbm, ⟨33, _⟩ => ⟨S8x4096x3072, .f32⟩
  | .hbm, ⟨34, _⟩ => ⟨S_, .i32⟩
  | .hbm, ⟨35, _⟩ => ⟨S_, .f32⟩
  | .hbm, ⟨36, _⟩ => ⟨S8x4099x3072, .f32⟩
  | .hbm, ⟨37, _⟩ => ⟨S4x3072, .f32⟩
  | .hbm, ⟨38, _⟩ => ⟨S8x4096x3072, .f32⟩
  | .hbm, ⟨39, _⟩ => ⟨S1x3072, .f32⟩
  | .hbm, ⟨40, _⟩ => ⟨S3072, .f32⟩
  | .hbm, ⟨41, _⟩ => ⟨S1x1x3072, .f32⟩
  | .hbm, ⟨42, _⟩ => ⟨S8x4096x3072, .f32⟩
  | .hbm, ⟨43, _⟩ => ⟨S8x4096x3072, .f32⟩
  | .hbm, ⟨44, _⟩ => ⟨S8x4096x3072, .f32⟩
  | .hbm, ⟨45, _⟩ => ⟨S1x3072, .f32⟩
  | .hbm, ⟨46, _⟩ => ⟨S3072, .f32⟩
  | .hbm, ⟨47, _⟩ => ⟨S1x1x3072, .f32⟩
  | .hbm, ⟨48, _⟩ => ⟨S8x4096x3072, .f32⟩
  | .hbm, ⟨49, _⟩ => ⟨S8x4096x3072, .f32⟩
  | .hbm, ⟨50, _⟩ => ⟨S8x4096x3072, .f32⟩
  | .hbm, ⟨51, _⟩ => ⟨S8x4096x3072, .f32⟩
  | .hbm, ⟨52, _⟩ => ⟨S1x3072, .f32⟩
  | .hbm, ⟨53, _⟩ => ⟨S3072, .f32⟩
  | .hbm, ⟨54, _⟩ => ⟨S1x1x3072, .f32⟩
  | .hbm, ⟨55, _⟩ => ⟨S8x4096x3072, .f32⟩
  | .hbm, ⟨56, _⟩ => ⟨S8x4096x3072, .f32⟩
  | .hbm, ⟨57, _⟩ => ⟨S8x4096x3072, .f32⟩
  | .hbm, ⟨58, _⟩ => ⟨S8x4096x3072, .f32⟩
  | .hbm, ⟨59, _⟩ => ⟨S1x3072, .f32⟩
  | .hbm, ⟨60, _⟩ => ⟨S3072, .f32⟩
  | .hbm, ⟨61, _⟩ => ⟨S1x1x3072, .f32⟩
  | .hbm, ⟨62, _⟩ => ⟨S8x4096x3072, .f32⟩
  | .hbm, ⟨63, _⟩ => ⟨S8x4096x3072, .f32⟩
  | .hbm, ⟨64, _⟩ => ⟨S8x4096x3072, .f32⟩
  | .hbm, ⟨65, _⟩ => ⟨S8x4096x3072, .f32⟩
  | .hbm, ⟨66, _⟩ => ⟨S8x4096x3072, .f32⟩
  | .hbm, ⟨67, _⟩ => ⟨S_, .f32⟩
  | .hbm, ⟨68, _⟩ => ⟨S8x4096x3072, .f32⟩
  | .hbm, ⟨69, _⟩ => ⟨S8x4096x3072, .f32⟩
  | .hbm, ⟨70, _⟩ => ⟨S_, .f32⟩
  | .hbm, ⟨71, _⟩ => ⟨S8x4096x3072, .f32⟩
  | .hbm, ⟨72, _⟩ => ⟨S8x4096x3072, .f32⟩
  | .hbm, ⟨73, _⟩ => ⟨S8x4096x3072, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S8x4096x8x128, .f32⟩
  | .hbm, ⟨78, _⟩ => ⟨S8x4096x8x128, .f32⟩
  | .hbm, ⟨79, _⟩ => ⟨S_, .f32⟩
  | .hbm, ⟨80, _⟩ => ⟨S8x4096x8, .f32⟩
  | .hbm, ⟨81, _⟩ => ⟨S8x4096x8x1, .f32⟩
  | .hbm, ⟨82, _⟩ => ⟨S_, .f32⟩
  | .hbm, ⟨83, _⟩ => ⟨S8x4096x8x1, .f32⟩
  | .hbm, ⟨84, _⟩ => ⟨S8x4096x8x1, .f32⟩
  | .hbm, ⟨85, _⟩ => ⟨S8x4096x8x1, .f32⟩
  | .hbm, ⟨86, _⟩ => ⟨S8x4096x8x128, .f32⟩
  | .hbm, ⟨87, _⟩ => ⟨S8x4096x8x128, .f32⟩
  | .hbm, ⟨88, _⟩ => ⟨S_, .f32⟩
  | .hbm, ⟨89, _⟩ => ⟨S8x4096x8x128, .f32⟩
  | .hbm, ⟨90, _⟩ => ⟨S8x4096x8x128, .f32⟩
  | .hbm, ⟨91, _⟩ => ⟨S8x4096x1024, .f32⟩
  | .hbm, ⟨92, _⟩ => ⟨S8x4096x8x128, .f32⟩
  | .hbm, ⟨93, _⟩ => ⟨S8x4096x8x128, .f32⟩
  | .hbm, ⟨94, _⟩ => ⟨S_, .f32⟩
  | .hbm, ⟨95, _⟩ => ⟨S8x4096x8, .f32⟩
  | .hbm, ⟨96, _⟩ => ⟨S8x4096x8x1, .f32⟩
  | .hbm, ⟨97, _⟩ => ⟨S_, .f32⟩
  | .hbm, ⟨98, _⟩ => ⟨S8x4096x8x1, .f32⟩
  | .hbm, ⟨99, _⟩ => ⟨S8x4096x8x1, .f32⟩
  | .hbm, ⟨100, _⟩ => ⟨S8x4096x8x1, .f32⟩
  | .hbm, ⟨101, _⟩ => ⟨S8x4096x8x128, .f32⟩
  | .hbm, ⟨102, _⟩ => ⟨S8x4096x8x128, .f32⟩
  | .hbm, ⟨103, _⟩ => ⟨S8x4096x1024, .f32⟩
  | .hbm, ⟨104, _⟩ => ⟨S1024x2048, .f32⟩
  | .hbm, ⟨105, _⟩ => ⟨S8x4096x2048, .f32⟩
  | .hbm, ⟨106, _⟩ => ⟨S_, .f32⟩
  | .hbm, ⟨107, _⟩ => ⟨S8x4096x64, .f32⟩
  | .hbm, ⟨108, _⟩ => ⟨S8x4096x4096, .f32⟩
  | .hbm, ⟨109, _⟩ => ⟨S8x4096x256, .f32⟩
  | .hbm, ⟨110, _⟩ => ⟨S8x4096x9984, .f32⟩
  | .hbm, ⟨111, _⟩ => ⟨S_, .f32⟩
  | .hbm, ⟨112, _⟩ => ⟨S8x4096x104, .f32⟩
  | .hbm, ⟨113, _⟩ => ⟨S8x4096x128, .f32⟩
  | .hbm, ⟨114, _⟩ => ⟨S32768x9984, .f32⟩
  | .hbm, ⟨115, _⟩ => ⟨S32768x9984, .bf16⟩
  | .hbm, ⟨116, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_2 : Ref sig .tc := ⟨.hbm, 79, rfl⟩
abbrev main_v61 : Ref sig .tc := ⟨.hbm, 80, rfl⟩
abbrev main_v62 : Ref sig .tc := ⟨.hbm, 81, rfl⟩
abbrev main_cst_3 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_4 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_5 : Ref sig .tc := ⟨.hbm, 94, rfl⟩
abbrev main_v73 : Ref sig .tc := ⟨.hbm, 95, rfl⟩
abbrev main_v74 : Ref sig .tc := ⟨.hbm, 96, rfl⟩
abbrev main_cst_6 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_7 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_8 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]
-- ==== Proof.GdnRef.lean ====
/- The gated delta rule's reference: it terminates with its arguments as they were. -/
module

public import proofs.«01_k».proof.Proof.Gen.ReferenceIdeal.Run

@[expose] public section

set_option maxRecDepth 8192

noncomputable section

namespace Cert.ReferenceIdeal.Value

open Cert.ReferenceIdeal Cert.ReferenceIdeal.Gen Idealize.ShloMosaic Idealize.ShloMosaic.TcCoe Idealize.SL.Sem
open Idealize.ShloMosaic.StableHlo

variable {F : FTy → Type} [FloatOps F]

/-- The arguments. -/
abbrev args : List (Ref sig .tc) := [main_arg0, main_arg1, main_arg2, main_arg3, main_arg4]

/-- The contents agree on the arguments. -/
def SameArgs (V W : Valuation τ sig (Elt F)) : Prop := ∀ r ∈ args, V (Proc.devRef .tc r) = W (Proc.devRef .tc r)

/-- A stretch of operations that writes no argument leaves the arguments as they were. -/
theorem SameArgs.step {V W : Valuation τ sig (Elt F)} (e : SameArgs V W) {L : List (Ref sig .tc)} {ops : List (HloOp τ sig (Elt F))}
    (w : ops.Forall fun op => op.writes ⊆ (L.map (Proc.devRef (τ := τ) .tc)).toFinset) (d : ∀ r ∈ args, r ∉ L) : SameArgs (after ops V) W :=
  fun r hr => (after_of_writes_sub ops V w (d r hr)).trans (e r hr)

/-- The references that the stretches after the loop write. -/
abbrev post3 : List (Ref sig .tc) := [main_v39, main_v40, main_cst_3, main_v41, main_v42, main_cst_4, main_v43, main_v44, main_cst_5, main_v45, main_v46, main_v47, main_v48, main_v49, main_v50, main_v51, main_v52]
abbrev post4 : List (Ref sig .tc) := [main_call7_v0, main_call7_v1, main_call7_cst, main_call7_v2, main_call7_v3, main_call7_cst_0, main_call7_v4, main_call7_v5, main_v53]
abbrev post5 : List (Ref sig .tc) := [main_v54, main_v55, main_v56, main_v57]

theorem post3_writes : (hostOps0_3 : List (HloOp τ sig (Elt F))).Forall fun op => op.writes ⊆ (post3.map (Proc.devRef (τ := τ) .tc)).toFinset :=
  StableHlo.forall_writes_sub_of_map rfl
theorem post4_writes : (hostOps0_4 : List (HloOp τ sig (Elt F))).Forall fun op => op.writes ⊆ (post4.map (Proc.devRef (τ := τ) .tc)).toFinset :=
  StableHlo.forall_writes_sub_of_map rfl
theorem post5_writes : (hostOps0_5 : List (HloOp τ sig (Elt F))).Forall fun op => op.writes ⊆ (post5.map (Proc.devRef (τ := τ) .tc)).toFinset :=
  StableHlo.forall_writes_sub_of_map rfl

variable (m : (ℓ : Loc nD τ sig) → Buf (Elt F) ℓ) (ρ : Dev nD → PrngReg)

/-- The arguments before any trip of the loop are those of the launch. -/
theorem same_trip (c : Dev nD) : ∀ k, SameArgs (atK m k c) (launchContents m c)
  | 0 => (((show SameArgs (launchContents m c) (launchContents m c) from fun _ _ => rfl).step hostOps0_writes (by decide +kernel)).step
      hostOps0_1_writes (by decide +kernel)).step hostOps0_2_writes (by decide +kernel)
  | k + 1 => (((((((((same_trip c k).step condOps_writes (by decide +kernel)).step while0Ops0_writes (by decide +kernel)).step
      while0Ops0_1_writes (by decide +kernel)).step while0Ops0_2_writes (by decide +kernel)).step while0Ops0_3_writes (by decide +kernel)).step
      while0Ops0_4_writes (by decide +kernel)).step while0Ops0_5_writes (by decide +kernel)).step while0Ops0_6_writes (by decide +kernel)).step
      while0Ops0_7_writes (by decide +kernel)

/-- The arguments at the end are those of the launch. -/
theorem same_final (c : Dev nD) : SameArgs (finalContents condOps preI bodyI postI 4096 m c) (launchContents m c) :=
  ((((same_trip m c 4096).step condOps_writes (by decide +kernel)).step post3_writes (by decide +kernel)).step
    post4_writes (by decide +kernel)).step post5_writes (by decide +kernel)

/-- No argument is a scoped buffer. -/
theorem args_unscoped : ∀ r ∈ args, (Proc.devRef .tc r : DevRef τ sig).isScoped = false := by decide +kernel

/-- From any memory with zero counters every execution terminates, each argument as it was. -/
theorem run_args : θ_run (defs (F := F)) (onTc (τ := τ) (main (F := F))) ⟨m, fun _ => 0, ρ⟩
    (fun r => ∀ c : Dev nD, ∀ b ∈ args, r.2.mem ((c.tc : Thread nD τ).loc b) = m ((c.tc : Thread nD τ).loc b)) :=
  (θ_run defs _ _).mono (fun _ h c b hb => (h c b (args_unscoped b hb)).trans (same_final m c b hb)) (run_fold m ρ)

end Cert.ReferenceIdeal.Value

end
-- ==== Proof.Mlp.lean ====
/- The MLP call: the array that its launch leaves is the reference's term of the arguments. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

set_option maxRecDepth 16384

noncomputable section

namespace Cert.MlpSpec

open Idealize.ShloMosaic

/-- One row normalised by its root mean square and scaled by `w`. -/
def rmsRow (v w : Fin 1024 → EReal) (j : Fin 1024) : EReal :=
  v j * Ideal.rsqrt (Ideal.div (∑ k, v k * v k) (Ideal.ofBits FTy.f32 0x44800000#32) + Ideal.ofBits FTy.f32 0x358637BD#32) * w j

/-- The hidden layer of one row, before it is squared. -/
def hidRow (v n2 : Fin 1024 → EReal) (w1 : Fin 1024 → Fin 4096 → EReal) (x : Fin 4096) : EReal :=
  max (∑ k, rmsRow v n2 k * w1 k x) 0

/-- The residual row after the MLP. -/
def resRow (v n2 : Fin 1024 → EReal) (w1 : Fin 1024 → Fin 4096 → EReal) (w2 : Fin 4096 → Fin 1024 → EReal) (j : Fin 1024) : EReal :=
  v j + ∑ x, hidRow v n2 w1 x * hidRow v n2 w1 x * w2 x j

end Cert.MlpSpec

namespace Cert.Reference2Ideal.RefValue

open Cert.Reference2Ideal Cert.Reference2Ideal.Gen Idealize.ShloMosaic Idealize.ShloMosaic.TcCoe

/-- Root-mean-square normalisation of the rows of `x`, scaled by `w`. -/
def rms (x : FVec Ideal S32768x1024 .f32) (w : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 w))

/-- The squared rectified hidden layer. -/
def hidden (x : FVec Ideal S32768x1024 .f32) (n2 : FVec Ideal S1x1024 .f32) (w1 : FVec Ideal S1x1024x4096 .f32) : FVec Ideal S32768x4096 .f32 :=
  maximumf (Host.dotGeneral dot_S32768x1024_S1024x4096_S32768x4096_1_0_0_1_n_n none (rms x (shapeCast _ n2 shapeCasts_S1x1024_S1024)) (shapeCast _ w1 shapeCasts_S1x1024x4096_S1024x4096)) (broadcastInDim S32768x4096 ![] bcast_S_S32768x4096 (constant S_ .f32 0x00000000#32))

/-- The residual stream after the MLP. -/
def resid (x : FVec Ideal S32768x1024 .f32) (n2 : FVec Ideal S1x1024 .f32) (w1 : FVec Ideal S1x1024x4096 .f32) (w2 : FVec Ideal S1x4096x1024 .f32) : FVec Ideal S32768x1024 .f32 :=
  addf x (Host.dotGeneral dot_S32768x4096_S4096x1024_S32768x1024_1_0_0_1_n_n none (mulf (hidden x n2 w1) (hidden x n2 w1)) (shapeCast _ w2 shapeCasts_S1x4096x1024_S4096x1024))

/-- The reference's result over its five arguments. -/
def out (x : FVec Ideal S32768x1024 .f32) (n2 : FVec Ideal S1x1024 .f32) (w1 : FVec Ideal S1x1024x4096 .f32) (w2 : FVec Ideal S1x4096x1024 .f32) (nf : FVec Ideal S1024 .f32) : FVec Ideal S32768x1024 .f32 :=
  rms (resid x n2 w1 w2) nf

/-- The reference's run leaves `out` of its arguments. -/
theorem res_eq (m : (ℓ : Loc nD τ sig) → Buf (Elt Ideal) ℓ) (c : Dev nD) :
    Value.res_out0 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

open Cert.MlpSpec

theorem rms_apply (x : FVec Ideal S32768x1024 .f32) (w : FVec Ideal S1024 .f32) (r : Fin 32768) (j : Fin 1024) :
    rms x w (ix2 r j) = rmsRow (fun k => x (ix2 r k)) (fun k => w (ix1 k)) j := by
  unfold rms rmsRow; pointwise

theorem hidden_apply (x : FVec Ideal S32768x1024 .f32) (n2 : FVec Ideal S1x1024 .f32) (w1 : FVec Ideal S1x1024x4096 .f32) (r : Fin 32768) (j : Fin 4096) :
    hidden x n2 w1 (ix2 r j) = hidRow (fun k => x (ix2 r k)) (fun k => n2 (ix2 0 k)) (fun k l => w1 (ix3 0 k l)) j := by
  unfold hidden hidRow; pointwise [rms_apply]

theorem resid_apply (x : FVec Ideal S32768x1024 .f32) (n2 : FVec Ideal S1x1024 .f32) (w1 : FVec Ideal S1x1024x4096 .f32) (w2 : FVec Ideal S1x4096x1024 .f32) (r : Fin 32768) (j : Fin 1024) :
    resid x n2 w1 w2 (ix2 r j) = resRow (fun k => x (ix2 r k)) (fun k => n2 (ix2 0 k)) (fun k l => w1 (ix3 0 k l)) (fun k l => w2 (ix3 0 k l)) j := by
  unfold resid resRow; pointwise [hidden_apply]

theorem out_apply (x : FVec Ideal S32768x1024 .f32) (n2 : FVec Ideal S1x1024 .f32) (w1 : FVec Ideal S1x1024x4096 .f32) (w2 : FVec Ideal S1x4096x1024 .f32) (nf : FVec Ideal S1024 .f32) (i : S32768x1024.Idx) :
    out x n2 w1 w2 nf i = rmsRow (resRow (fun k => x (ix2 (i 0) k)) (fun k => n2 (ix2 0 k)) (fun k l => w1 (ix3 0 k l)) (fun k l => w2 (ix3 0 k l))) (fun k => nf (ix1 k)) (i 1) := by
  obtain ⟨r, j, rfl⟩ : ∃ r j, i = ix2 r j := ⟨i 0, i 1, by pointwise⟩
  unfold out
  rw [rms_apply]
  simp only [resid_apply]
  rfl

end Cert.Reference2Ideal.RefValue

namespace Cert.Kernel2Ideal.RefValue

open Cert.Kernel2Ideal Cert.Kernel2Ideal.Gen Idealize.ShloMosaic Idealize.ShloMosaic.TcCoe
open Cert.Reference2Ideal.RefValue (out out_apply)
open Cert.MlpSpec

variable (m : (ℓ : Loc nD τ sig) → Buf (Elt Ideal) ℓ)

/-- Which block each window reads or writes at a grid point. -/
theorem idx : ∀ t : Fin cfg0.N, win0_0.index t = ![(grid0.coords t 0).val, 0] ∧ win0_1.index t = ![0, 0] ∧ win0_2.index t = ![0, 0] ∧ win0_3.index t = ![0, 0] ∧ win0_4.index t = ![0, 0] ∧ win0_5.index t = ![(grid0.coords t 0).val, 0] :=
  (by decide +kernel : ∀ t : Fin grid0.N, _)

/-- What a grid point stores, over the blocks that it reads. -/
theorem pay_apply (x : Vec Ideal S512x1024 .f32) (n2 : Vec Ideal S1x1024 .f32) (w1 : Vec Ideal S1024x4096 .bf16) (w2 : Vec Ideal S4096x1024 .bf16) (nf : Vec Ideal S1x1024 .f32) (y : S512x1024.Idx) :
    k0_pay1 (k0_pay2 x n2 w1 w2) (k0_pay3 nf) y
      = rmsRow (resRow (fun k => x (ix2 (y 0) k)) (fun k => n2 (ix2 0 k)) (fun k l => w1 (ix2 k l)) (fun k l => w2 (ix2 k l))) (fun k => nf (ix2 0 k)) (y 1) := by
  unfold rmsRow resRow hidRow rmsRow
  pointwise [k0_pay1, k0_pay2, k0_pay3]

/-- What a grid point stores is the reference's result at the place where the block lies. -/
theorem point (c : Dev nD) (t : Fin cfg0.N) (y : S512x1024.Idx) :
    k0_pay1 (k0_pay2 (iblk m c 0 t) (iblk m c 1 t) (iblk m c 2 t) (iblk m c 3 t)) (k0_pay3 (iblk m c 4 t)) y
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((cfg0.win 5).blk t).view.emb y) := by
  rw [pay_apply, out_apply]
  have e : ((((cfg0.win 5).blk t).view.emb y) 1 : Fin 1024) = y 1 := by apply Fin.ext; blk_simp [idx t]
  rw [e]
  congr 1
  · congr 1
    · funext k; blk_ext! [iblk, V, idx t]
    · funext k; blk_ext! [iblk, V, idx t]
    · funext k l; blk_ext! [iblk, V, idx t]
    · funext k l; blk_ext! [iblk, V, idx t]
  · funext k; blk_ext! [iblk, V, idx t]

/-- The array that the launch leaves is the reference's result. -/
theorem final (c : Dev nD) : (dats m 0 c).arrAt 5 (cfgs 0).N
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  blk_simp
  rw [after0_5]
  frame_out
  exact point m c t y

end Cert.Kernel2Ideal.RefValue
-- ==== Proof.Merge.lean ====
/- The merge call: the array that its launch leaves is the reference's term of the arguments. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.MergeSpec

open Idealize.ShloMosaic

/-- The product of a row with a square matrix, at a column. -/
def mulRow (v : Fin 1024 → EReal) (w : Fin 1024 → Fin 1024 → EReal) (j : Fin 1024) : EReal := ∑ k, v k * w k j

/-- One row of the merge: the two branches, each projected and weighted by its gate, projected again and added to the
    residual row. `ga` and `gb` are the two gates' arguments. -/
def mergeRow (oa ob ga gb x : Fin 1024 → EReal) (wa wb wo : Fin 1024 → Fin 1024 → EReal) (j : Fin 1024) : EReal :=
  x j + mulRow (fun k => Ideal.logistic (ga k) * mulRow oa wa k + Ideal.logistic (gb k) * mulRow ob wb k) wo j

end Cert.MergeSpec

namespace Cert.Reference4Ideal.RefValue

open Cert.Reference4Ideal Cert.Reference4Ideal.Gen Idealize.ShloMosaic Idealize.ShloMosaic.TcCoe Cert.MergeSpec

/-- Both gates of every row, as the reference computes them. -/
def gates (p : FVec Ideal S32768x9984 .bf16) (b : FVec Ideal S1x2048 .f32) : FVec Ideal S32768x2x1024 .f32 :=
  shapeCast _ (Host.divf (broadcastInDim S32768x2048 ![] bcast_S_S32768x2048 (constant S_ .f32 0x3F800000#32)) (addf (broadcastInDim S32768x2048 ![] bcast_S_S32768x2048 (constant S_ .f32 0x3F800000#32)) (Host.exp (Host.negf (addf (extf .f32 (extractStridedSlice S32768x2048 ![0, 4096] p slices_S32768x9984_S32768x2048_0_4096) bitsLt_bf16_f32) (broadcastInDim S32768x2048 ![0, 1] bcast_S1x2048_S32768x2048_0_1 (broadcastInDim S1x2048 ![1] bcast_S2048_S1x2048_1 (shapeCast _ b shapeCasts_S1x2048_S2048)))))))) shapeCasts_S32768x2048_S32768x2x1024

/-- The reference's result over its eight arguments. -/
def out (oa ob : FVec Ideal S32768x1024 .bf16) (p : FVec Ideal S32768x9984 .bf16) (x : FVec Ideal S32768x1024 .f32) (b : FVec Ideal S1x2048 .f32) (wa wb wo : FVec Ideal S1x1024x1024 .f32) : FVec Ideal S32768x1024 .f32 :=
  addf x (Host.dotGeneral dot_S32768x1024_S1024x1024_S32768x1024_1_0_0_1_n_n none (addf (mulf (shapeCast _ (extractStridedSlice S32768x1x1024 ![0, 0, 0] (gates p b) slices_S32768x2x1024_S32768x1x1024_0_0_0) shapeCasts_S32768x1x1024_S32768x1024) (Host.dotGeneral dot_S32768x1024_S1024x1024_S32768x1024_1_0_0_1_n_n none (extf .f32 oa bitsLt_bf16_f32) (shapeCast _ wa shapeCasts_S1x1024x1024_S1024x1024))) (mulf (shapeCast _ (extractStridedSlice S32768x1x1024 ![0, 1, 0] (gates p b) slices_S32768x2x1024_S32768x1x1024_0_1_0) shapeCasts_S32768x1x1024_S32768x1024) (Host.dotGeneral dot_S32768x1024_S1024x1024_S32768x1024_1_0_0_1_n_n none (extf .f32 ob bitsLt_bf16_f32) (shapeCast _ wb shapeCasts_S1x1024x1024_S1024x1024)))) (shapeCast _ wo shapeCasts_S1x1024x1024_S1024x1024))

/-- A gate at an index: gate `g` of column `j` stands in column `g * 1024 + j` of the gates' block of `p`. -/
theorem gates_apply (p : FVec Ideal S32768x9984 .bf16) (b : FVec Ideal S1x2048 .f32) (r : Fin 32768) (g : Fin 2) (j : Fin 1024) :
    gates p b (ix3 r g j) = Ideal.logistic (p (ix2 r ⟨4096 + (g.val * 1024 + j.val), by omega⟩) + b (ix2 0 ⟨g.val * 1024 + j.val, by omega⟩)) := by
  unfold gates Ideal.logistic
  pointwise

theorem out_apply (oa ob : FVec Ideal S32768x1024 .bf16) (p : FVec Ideal S32768x9984 .bf16) (x : FVec Ideal S32768x1024 .f32) (b : FVec Ideal S1x2048 .f32) (wa wb wo : FVec Ideal S1x1024x1024 .f32) (r : Fin 32768) (j : Fin 1024) :
    out oa ob p x b wa wb wo (ix2 r j) = mergeRow (fun k => oa (ix2 r k)) (fun k => ob (ix2 r k))
      (fun k => p (ix2 r ⟨4096 + k.val, by omega⟩) + b (ix2 0 ⟨k.val, by omega⟩))
      (fun k => p (ix2 r ⟨4096 + (1024 + k.val), by omega⟩) + b (ix2 0 ⟨1024 + k.val, by omega⟩)) (fun k => x (ix2 r k))
      (fun k l => wa (ix3 0 k l)) (fun k l => wb (ix3 0 k l)) (fun k l => wo (ix3 0 k l)) j := by
  unfold out mergeRow mulRow
  pointwise [gates_apply]

end Cert.Reference4Ideal.RefValue

namespace Cert.Kernel4Ideal.RefValue

open Cert.Kernel4Ideal Cert.Kernel4Ideal.Gen Idealize.ShloMosaic Idealize.ShloMosaic.TcCoe
open Cert.Reference4Ideal.RefValue (out out_apply)
open Cert.MergeSpec

variable (m : (ℓ : Loc nD τ sig) → Buf (Elt Ideal) ℓ)

/-- Which block each window reads or writes at a grid point. -/
theorem idx : ∀ t : Fin cfg0.N, win0_0.index t = ![(grid0.coords t 0).val, 0] ∧ win0_1.index t = ![(grid0.coords t 0).val, 0] ∧ win0_2.index t = ![(grid0.coords t 0).val, 2] ∧ win0_3.index t = ![(grid0.coords t 0).val, 0] ∧ win0_4.index t = ![0, 0] ∧ win0_5.index t = ![0, 0] ∧ win0_6.index t = ![0, 0] ∧ win0_7.index t = ![0, 0] ∧ win0_8.index t = ![(grid0.coords t 0).val, 0] :=
  (by decide +kernel : ∀ t : Fin grid0.N, _)

/-- What a grid point stores, over the blocks that it reads. -/
theorem pay_apply (oa ob : Vec Ideal S512x1024 .bf16) (p : Vec Ideal S512x2048 .bf16) (x : Vec Ideal S512x1024 .f32) (b : Vec Ideal S1x2048 .f32) (wa wb wo : Vec Ideal S1024x1024 .bf16) (r : Fin 512) (j : Fin 1024) :
    k0_pay1 oa wa ob wb p b x wo (ix2 r j)
      = mergeRow (fun k => oa (ix2 r k)) (fun k => ob (ix2 r k))
          (fun k => p (ix2 r ⟨k.val, by omega⟩) + b (ix2 0 ⟨k.val, by omega⟩))
          (fun k => p (ix2 r ⟨1024 + k.val, by omega⟩) + b (ix2 0 ⟨1024 + k.val, by omega⟩)) (fun k => x (ix2 r k))
          (fun k l => wa (ix2 k l)) (fun k l => wb (ix2 k l)) (fun k l => wo (ix2 k l)) j := by
  unfold mergeRow mulRow Ideal.logistic
  pointwise [k0_pay1]
  simp only [zero_sub]

/-- The row of the arrays that a row of a point's blocks is. -/
def row (t : Fin cfg0.N) (r : Fin 512) : Fin 32768 := ⟨(grid0.coords t 0).val * 512 + r.val, by have := (grid0.coords t 0).isLt; have : (grid0.coords t 0).val < 64 := this; omega⟩

/-- The gates' block at an index. -/
theorem gate_read (c : Dev nD) (t : Fin cfg0.N) (r : Fin 512) (k : Fin 2048) :
    X0_2 m c t (ix2 r k) = m ((c.tc : Thread nD τ).loc main_arg2) (ix2 (row t r) ⟨4096 + k.val, by omega⟩) := by
  unfold X0_2 Pipeline.Window.fill row
  rw [dif_pos (moved0_2 t _)]
  blk_ext [iblk, V, idx t]

theorem oa_read (c : Dev nD) (t : Fin cfg0.N) (r : Fin 512) (k : Fin 1024) :
    iblk m c 0 t (ix2 r k) = m ((c.tc : Thread nD τ).loc main_arg0) (ix2 (row t r) k) := by
  unfold row; blk_ext! [iblk, V, idx t]

theorem ob_read (c : Dev nD) (t : Fin cfg0.N) (r : Fin 512) (k : Fin 1024) :
    iblk m c 1 t (ix2 r k) = m ((c.tc : Thread nD τ).loc main_arg1) (ix2 (row t r) k) := by
  unfold row; blk_ext! [iblk, V, idx t]

theorem x_read (c : Dev nD) (t : Fin cfg0.N) (r : Fin 512) (k : Fin 1024) :
    iblk m c 3 t (ix2 r k) = m ((c.tc : Thread nD τ).loc main_arg3) (ix2 (row t r) k) := by
  unfold row; blk_ext! [iblk, V, idx t]

theorem b_read (c : Dev nD) (t : Fin cfg0.N) (k : Fin 2048) :
    iblk m c 4 t (ix2 0 k) = m ((c.tc : Thread nD τ).loc main_arg4) (ix2 0 k) := by
  blk_ext! [iblk, V, idx t]

theorem wa_read (c : Dev nD) (t : Fin cfg0.N) (k l : Fin 1024) :
    iblk m c 5 t (ix2 k l) = m ((c.tc : Thread nD τ).loc main_arg5) (ix3 0 k l) := by
  blk_ext! [iblk, V, idx t]

theorem wb_read (c : Dev nD) (t : Fin cfg0.N) (k l : Fin 1024) :
    iblk m c 6 t (ix2 k l) = m ((c.tc : Thread nD τ).loc main_arg6) (ix3 0 k l) := by
  blk_ext! [iblk, V, idx t]

theorem wo_read (c : Dev nD) (t : Fin cfg0.N) (k l : Fin 1024) :
    iblk m c 7 t (ix2 k l) = m ((c.tc : Thread nD τ).loc main_arg7) (ix3 0 k l) := by
  blk_ext! [iblk, V, idx t]

/-- What a grid point stores is the reference's result at the place where the block lies. -/
theorem point (c : Dev nD) (t : Fin cfg0.N) (y : S512x1024.Idx) :
    k0_pay1 (iblk m c 0 t) (iblk m c 5 t) (iblk m c 1 t) (iblk m c 6 t) (X0_2 m c t) (iblk m c 4 t) (iblk m c 3 t) (iblk m c 7 t) y
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (((cfg0.win 8).blk t).view.emb y) := by
  obtain ⟨r, j, rfl⟩ : ∃ (r : Fin 512) (j : Fin 1024), y = ix2 r j := ⟨y 0, y 1, by pointwise⟩
  have e : ((cfg0.win 8).blk t).view.emb (ix2 r j) = ix2 (row t r) j := by unfold row; blk_ext [idx t]
  rw [pay_apply, e, out_apply]
  simp only [gate_read, oa_read, ob_read, x_read, b_read, wa_read, wb_read, wo_read]

/-- The array that the launch leaves is the reference's result. -/
theorem final (c : Dev nD) : (dats m 0 c).arrAt 8 (cfgs 0).N
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 8 _ (by decide +kernel) fun t _ y => ?_
  blk_simp
  rw [after0_8]
  unfold outsAt0
  frame_out
  exact point m c t y

end Cert.Kernel4Ideal.RefValue
-- ==== Proof.Rows.lean ====
/- Root-mean-square normalisation of one row: the layer's three uses of it share this definition. -/
module

public import Idealize.ShloMosaic.Lib.Pipeline.ValueKit

@[expose] public section

noncomputable section

namespace Cert.Rows

open Idealize.ShloMosaic

/-- One row normalised by its root mean square and scaled by `w`. -/
def rmsRow (v w : Fin 1024 → EReal) (j : Fin 1024) : EReal :=
  v j * Ideal.rsqrt (Ideal.div (∑ k, v k * v k) (Ideal.ofBits FTy.f32 0x44800000#32) + Ideal.ofBits FTy.f32 0x358637BD#32) * w j

end Cert.Rows

end
-- ==== Proof.ProjSpec.lean ====
/- The mathematics of the input projection on single rows and columns, with no program in it. -/
module

public import proofs.«01_k».proof.Proof.Rows

@[expose] public section

noncomputable section

namespace Cert.ProjSpec

open Idealize.ShloMosaic

/-- A row times a column. -/
def lin (v w : Fin 1024 → EReal) : EReal := ∑ k, v k * w k

/-- The entry `d` steps before position `t`; zero before the sequence begins. -/
def tap (y : Fin 4096 → EReal) (t : Fin 4096) (d : ℕ) : EReal := if d ≤ t.val then y ⟨t.val - d, by omega⟩ else 0

/-- The causal convolution of one channel with four taps. -/
def conv (y : Fin 4096 → EReal) (w : Fin 4 → EReal) (t : Fin 4096) : EReal :=
  tap y t 3 * w 0 + tap y t 2 * w 1 + tap y t 1 * w 2 + y t * w 3

/-- The convolution followed by SiLU. -/
def act (y : Fin 4096 → EReal) (w : Fin 4 → EReal) (t : Fin 4096) : EReal := conv y w t * Ideal.logistic (conv y w t)

/-- The reciprocal of the Euclidean norm of one head's row. -/
def invNorm (s : Fin 128 → EReal) : EReal := Ideal.rsqrt ((∑ l, s l * s l) + Ideal.ofBits FTy.f32 0x358637BD#32)

/-- Column `j` of the head that column `j` belongs to, the head's `l`-th. -/
def headCol (j : ℕ) (l : Fin 128) : ℕ := j / 128 * 128 + l.val

/-- Column `j` of the large result at position `t` of one sequence, from the columns `y` of the projection of that
    sequence and the taps `w`: queries and keys are convolved, passed through SiLU and normalised head by head (the
    queries scaled as well), values are convolved and passed through SiLU, everything else is the projection. -/
def big (y : Fin 9984 → Fin 4096 → EReal) (w : Fin 4 → Fin 3072 → EReal) (t : Fin 4096) (j : Fin 9984) : EReal :=
  if h : j.val < 3072 then
    if h2 : j.val < 2048 then
      act (y j) (fun i => w i ⟨j.val, h⟩) t
        * (if j.val < 1024 then
            invNorm (fun l => act (y ⟨headCol j.val l, by unfold headCol; omega⟩) (fun i => w i ⟨headCol j.val l, by unfold headCol; omega⟩) t) * Ideal.ofBits FTy.f32 0x3DB504F3#32
          else invNorm (fun l => act (y ⟨headCol j.val l, by unfold headCol; omega⟩) (fun i => w i ⟨headCol j.val l, by unfold headCol; omega⟩) t))
    else act (y j) (fun i => w i ⟨j.val, h⟩) t
  else y j t

/-- The column of the input weights and the gate weights that column `j` of the large result is projected with. -/
def wcol (wi : Fin 7768 → EReal) (wg : Fin 2048 → EReal) (j : Fin 9984) : EReal :=
  if h : j.val < 4096 then wi ⟨j.val, by omega⟩
  else if h : j.val < 6144 then wg ⟨j.val - 4096, by omega⟩
  else if h : j.val < 9792 then wi ⟨j.val - 6144 + 4112, by omega⟩
  else if j.val < 9920 then 0
  else wi ⟨j.val - 9920 + 7696, by omega⟩

/-- The column of the input weights that column `j` of the small result is projected with. -/
def scol (wi : Fin 7768 → EReal) (j : Fin 128) : EReal :=
  if h : j.val < 16 then wi ⟨4096 + j.val, by omega⟩
  else if h : j.val < 24 then wi ⟨7760 + (j.val - 16), by omega⟩
  else 0

theorem tap_zero (y : Fin 4096 → EReal) (t : Fin 4096) : tap y t 0 = y t := by
  unfold tap; simp

theorem lin_zero (v : Fin 1024 → EReal) : lin v (fun _ => 0) = 0 := by
  unfold lin; simp

end Cert.ProjSpec

end
-- ==== Proof.ProjPay.lean ====
/- The input projection's kernel: what the stored payloads are, entry by entry, over the arrays that they are made of. -/
module

public import proofs.«01_k».proof.Proof.ProjSpec
public import proofs.«01_k».proof.Proof.Gen.Kernel3Ideal.Skeleton
public import Idealize.ShloMosaic.Lib.Pipeline.ValueKit
public import Idealize.ShloMosaic.Lib.Claim

@[expose] public section

set_option maxRecDepth 16384

noncomputable section

namespace Cert.Kernel3Ideal.RefValue

open Cert.Kernel3Ideal Cert.Kernel3Ideal.Gen Idealize.ShloMosaic Idealize.ShloMosaic.TcCoe Cert.ProjSpec Cert.Rows

/-- The normalised rows of a block. -/
theorem norm_apply (x : Vec Ideal S512x1024 .f32) (n : Vec Ideal S1x1024 .f32) (r : Fin 512) (k : Fin 1024) :
    k0_pay3 x n (ix2 r k) = rmsRow (fun k => x (ix2 r k)) (fun k => n (ix2 0 k)) k := by
  unfold rmsRow
  pointwise [k0_pay3]

/-- The small result of a block. -/
theorem small_apply (x : Vec Ideal S512x1024 .f32) (n : Vec Ideal S1x1024 .f32) (w : Vec Ideal S1024x128 .bf16) (r : Fin 512) (j : Fin 128) :
    k0_pay4 x n w (ix2 r j) = lin (rmsRow (fun k => x (ix2 r k)) (fun k => n (ix2 0 k))) (fun k => w (ix2 k j)) := by
  unfold lin
  pointwise [k0_pay4, norm_apply]

variable (h : FVec Ideal S512x1024 .bf16) (w : Vec Ideal S1024x768 .bf16)

/-- The products of the rows with 768 columns, as the convolved parts use them. -/
theorem dot_apply (r : Fin 512) (j : Fin 768) :
    (k0_pay5 h w (ix2 r j) = lin (fun k => h (ix2 r k)) (fun k => w (ix2 k j))
      ∧ k0_pay19 h w (ix2 r j) = lin (fun k => h (ix2 r k)) (fun k => w (ix2 k j)))
      ∧ k0_pay31 h w (ix2 r j) = lin (fun k => h (ix2 r k)) (fun k => w (ix2 k j))
      ∧ k0_pay42 h w (ix2 r j) = lin (fun k => h (ix2 r k)) (fun k => w (ix2 k j)) := by
  unfold lin
  refine ⟨⟨?_, ?_⟩, ?_, ?_⟩ <;> pointwise [k0_pay5, k0_pay19, k0_pay31, k0_pay42]

/-- The rows that the work buffer is filled with. -/
theorem fill_apply (r : Fin 512) (j : Fin 768) :
    (k0_pay7 h w (ix2 r j) = lin (fun k => h (ix2 r k)) (fun k => w (ix2 k j))
      ∧ k0_pay21 h w (ix2 r j) = lin (fun k => h (ix2 r k)) (fun k => w (ix2 k j)))
      ∧ k0_pay33 h w (ix2 r j) = lin (fun k => h (ix2 r k)) (fun k => w (ix2 k j))
      ∧ k0_pay44 h w (ix2 r j) = lin (fun k => h (ix2 r k)) (fun k => w (ix2 k j)) := by
  refine ⟨⟨?_, ?_⟩, ?_, ?_⟩ <;> pointwise [k0_pay7, k0_pay21, k0_pay33, k0_pay44, dot_apply]

/-- The last eight rows, which the next block looks back at. -/
theorem keep_apply (i : Fin 8) (j : Fin 768) :
    (k0_pay8 h w (ix3 0 i j) = lin (fun k => h (ix2 ⟨504 + i.val, by omega⟩ k)) (fun k => w (ix2 k j))
      ∧ k0_pay22 h w (ix3 0 i j) = lin (fun k => h (ix2 ⟨504 + i.val, by omega⟩ k)) (fun k => w (ix2 k j)))
      ∧ k0_pay34 (k0_pay31 h w) (ix3 0 i j) = lin (fun k => h (ix2 ⟨504 + i.val, by omega⟩ k)) (fun k => w (ix2 k j))
      ∧ k0_pay45 h w (ix3 0 i j) = lin (fun k => h (ix2 ⟨504 + i.val, by omega⟩ k)) (fun k => w (ix2 k j)) := by
  refine ⟨⟨?_, ?_⟩, ?_, ?_⟩ <;> pointwise [k0_pay8, k0_pay22, k0_pay34, k0_pay45, dot_apply]

/-- The products that are stored as they are. -/
theorem plain_apply (r : Fin 512) (j : Fin 768) :
    ((k0_pay16 h w (ix2 r j) = lin (fun k => h (ix2 r k)) (fun k => w (ix2 k j))
      ∧ k0_pay17 h w (ix2 r j) = lin (fun k => h (ix2 r k)) (fun k => w (ix2 k j)))
      ∧ k0_pay18 h w (ix2 r j) = lin (fun k => h (ix2 r k)) (fun k => w (ix2 k j))
      ∧ k0_pay28 h w (ix2 r j) = lin (fun k => h (ix2 r k)) (fun k => w (ix2 k j)))
      ∧ (k0_pay29 h w (ix2 r j) = lin (fun k => h (ix2 r k)) (fun k => w (ix2 k j))
      ∧ k0_pay30 h w (ix2 r j) = lin (fun k => h (ix2 r k)) (fun k => w (ix2 k j)))
      ∧ k0_pay39 h w (ix2 r j) = lin (fun k => h (ix2 r k)) (fun k => w (ix2 k j))
      ∧ k0_pay40 h w (ix2 r j) = lin (fun k => h (ix2 r k)) (fun k => w (ix2 k j))
      ∧ k0_pay41 h w (ix2 r j) = lin (fun k => h (ix2 r k)) (fun k => w (ix2 k j)) := by
  unfold lin
  refine ⟨⟨⟨?_, ?_⟩, ?_, ?_⟩, ⟨?_, ?_⟩, ?_, ?_, ?_⟩ <;>
    pointwise [k0_pay16, k0_pay17, k0_pay18, k0_pay28, k0_pay29, k0_pay30, k0_pay39, k0_pay40, k0_pay41]

/-- The rows put before a block: zeros where a sequence begins, what was kept otherwise. -/
theorem before_apply (b : BitVec 1) (v : Vec Ideal S1x8x768 .f32) (i : Fin 8) (j : Fin 768) :
    (k0_pay6 b v (ix2 i j) = (if b = 1#1 then 0 else v (ix3 0 i j)) ∧ k0_pay20 b v (ix2 i j) = (if b = 1#1 then 0 else v (ix3 0 i j)))
      ∧ k0_pay32 b v (ix2 i j) = (if b = 1#1 then 0 else v (ix3 0 i j))
      ∧ k0_pay43 b v (ix2 i j) = (if b = 1#1 then 0 else v (ix3 0 i j)) := by
  refine ⟨⟨?_, ?_⟩, ?_, ?_⟩ <;> (pointwise [k0_pay6, k0_pay20, k0_pay32, k0_pay43]; rfl)

/-- What a convolved part is made of: the products `Y`, the rows one, two and three steps before them, and the taps, of the
    columns `y` of one sequence at the positions `p` and of the convolution's weights `c`. -/
structure Feeds (Y Y3 Y2 Y1 : FVec Ideal S512x768 .f32) (c0 c1 c2 c3 : Vec Ideal S1x768 .f32)
    (y : Fin 768 → Fin 4096 → EReal) (c : Fin 4 → Fin 768 → EReal) (p : Fin 512 → Fin 4096) : Prop where
  now : ∀ r j, Y (ix2 r j) = y j (p r)
  back1 : ∀ r j, Y1 (ix2 r j) = tap (y j) (p r) 1
  back2 : ∀ r j, Y2 (ix2 r j) = tap (y j) (p r) 2
  back3 : ∀ r j, Y3 (ix2 r j) = tap (y j) (p r) 3
  tap0 : ∀ j, c0 (ix2 0 j) = c 0 j
  tap1 : ∀ j, c1 (ix2 0 j) = c 1 j
  tap2 : ∀ j, c2 (ix2 0 j) = c 2 j
  tap3 : ∀ j, c3 (ix2 0 j) = c 3 j

/-- The order in which the kernel adds the taps. -/
theorem conv_comm (y : Fin 4096 → EReal) (c : Fin 4 → EReal) (t : Fin 4096) :
    c 3 * y t + c 0 * tap y t 3 + c 1 * tap y t 2 + c 2 * tap y t 1 = conv y c t := by
  unfold conv
  simp only [mul_comm (c _)]
  ac_rfl

variable {Y Y3 Y2 Y1 : FVec Ideal S512x768 .f32} {c0 c1 c2 c3 : Vec Ideal S1x768 .f32}
  {y : Fin 768 → Fin 4096 → EReal} {c : Fin 4 → Fin 768 → EReal} {p : Fin 512 → Fin 4096}

/-- The first part after SiLU. -/
theorem act0 (e : Feeds (k0_pay5 h w) Y3 Y2 Y1 c0 c1 c2 c3 y c p) (r : Fin 512) (j : Fin 768) :
    k0_pay10 (k0_pay9 h w c3 c0 Y3 c1 Y2) c2 Y1 (ix2 r j) = act (y j) (fun i => c i j) (p r) := by
  unfold act Ideal.logistic
  rw [← conv_comm]
  pointwise [k0_pay10, k0_pay9, e.now, e.back1, e.back2, e.back3, e.tap0, e.tap1, e.tap2, e.tap3]
  simp only [zero_sub]

/-- The second part after SiLU. -/
theorem act1 (e : Feeds Y Y3 Y2 Y1 c0 c1 c2 c3 y c p) (r : Fin 512) (j : Fin 768) :
    k0_pay23 Y c3 c0 Y3 c1 Y2 c2 Y1 (ix2 r j) = act (y j) (fun i => c i j) (p r) := by
  unfold act Ideal.logistic
  rw [← conv_comm]
  pointwise [k0_pay23, e.now, e.back1, e.back2, e.back3, e.tap0, e.tap1, e.tap2, e.tap3]
  simp only [zero_sub]

/-- The third part after SiLU. -/
theorem act2 (e : Feeds Y Y3 Y2 Y1 c0 c1 c2 c3 y c p) (r : Fin 512) (j : Fin 768) :
    k0_pay35 Y c3 c0 Y3 c1 Y2 c2 Y1 (ix2 r j) = act (y j) (fun i => c i j) (p r) := by
  unfold act Ideal.logistic
  rw [← conv_comm]
  pointwise [k0_pay35, e.now, e.back1, e.back2, e.back3, e.tap0, e.tap1, e.tap2, e.tap3]
  simp only [zero_sub]

/-- The fourth part after SiLU. -/
theorem act3 (e : Feeds Y Y3 Y2 Y1 c0 c1 c2 c3 y c p) (r : Fin 512) (j : Fin 768) :
    k0_pay1 Y (k0_pay46 c3) c0 Y3 c1 Y2 c2 Y1 (ix2 r j) = act (y j) (fun i => c i j) (p r) := by
  unfold act Ideal.logistic
  rw [← conv_comm]
  pointwise [k0_pay1, k0_pay46, e.now, e.back1, e.back2, e.back3, e.tap0, e.tap1, e.tap2, e.tap3]
  simp only [zero_sub]

end Cert.Kernel3Ideal.RefValue

end
-- ==== Proof.ProjHead.lean ====
/- The input projection's kernel: the normalisation of the queries and keys, head by head. -/
module

public import proofs.«01_k».proof.Proof.ProjPay

@[expose] public section

set_option maxRecDepth 16384

noncomputable section

namespace Cert.Kernel3Ideal.RefValue

open Cert.Kernel3Ideal Cert.Kernel3Ideal.Gen Idealize.ShloMosaic Idealize.ShloMosaic.TcCoe Cert.ProjSpec Cert.Rows

/-- Column `l` of head `g` of the six heads of a part. -/
abbrev at6 (g : Fin 6) (l : Fin 128) : Fin 768 := ⟨g.val * 128 + l.val, by omega⟩

/-- A column of a part is a column of one of its six heads. -/
theorem exists_at6 (j : Fin 768) : ∃ (g : Fin 6) (l : Fin 128), j = at6 g l :=
  ⟨⟨j.val / 128, by omega⟩, ⟨j.val % 128, by omega⟩, Fin.ext (by show j.val = j.val / 128 * 128 + j.val % 128; omega)⟩

/-- The reciprocal norm of head `g` of row `r`. -/
abbrev inv6 (A : FVec Ideal S512x768 .f32) (r : Fin 512) (g : Fin 6) : EReal := invNorm fun l => A (ix2 r (at6 g l))

/-- The first part: six heads of queries, normalised and scaled. -/
theorem head0 (a : FVec Ideal S512x768 .f32) (b : Vec Ideal S1x768 .f32) (d : Vec Ideal S512x768 .f32) (r : Fin 512) (g : Fin 6) (l : Fin 128) :
    k0_pay15 (k0_pay10 a b d) (k0_pay11 a b d) (k0_pay12 a b d) (k0_pay13 a b d) (k0_pay14 a b d) (ix2 r (at6 g l))
      = k0_pay10 a b d (ix2 r (at6 g l)) * (inv6 (k0_pay10 a b d) r g * Ideal.ofBits FTy.f32 0x3DB504F3#32) := by
  unfold inv6 invNorm
  fin_cases g <;> pointwise [k0_pay15, k0_pay14, k0_pay13, k0_pay12, k0_pay11]
  all_goals
    repeat' split
    all_goals first
      | (exfalso; omega)
      | (with_reducible refine congrArg₂ HMul.hMul (congrArg _ (congrArg (ix2 r) (Fin.ext ?_))) ?_
         · simp [at6] <;> omega
         · rfl)
      | exact congrArg _ (congrArg (ix2 r) (Fin.ext (by simp [at6] <;> omega)))

/-- The second part: two heads of queries, normalised and scaled, then four heads of keys, normalised. -/
theorem head1 (Y : FVec Ideal S512x768 .f32) (c3 c0 : Vec Ideal S1x768 .f32) (Y3 : Vec Ideal S512x768 .f32) (c1 : Vec Ideal S1x768 .f32) (Y2 : Vec Ideal S512x768 .f32) (c2 : Vec Ideal S1x768 .f32) (Y1 : Vec Ideal S512x768 .f32) (r : Fin 512) (g : Fin 6) (l : Fin 128) :
    k0_pay27 (k0_pay23 Y c3 c0 Y3 c1 Y2 c2 Y1) (k0_pay24 Y c3 c0 Y3 c1 Y2 c2 Y1) (k0_pay25 Y c3 c0 Y3 c1 Y2 c2 Y1) (k0_pay26 Y c3 c0 Y3 c1 Y2 c2 Y1) (ix2 r (at6 g l))
      = k0_pay23 Y c3 c0 Y3 c1 Y2 c2 Y1 (ix2 r (at6 g l))
        * (if g.val < 2 then inv6 (k0_pay23 Y c3 c0 Y3 c1 Y2 c2 Y1) r g * Ideal.ofBits FTy.f32 0x3DB504F3#32 else inv6 (k0_pay23 Y c3 c0 Y3 c1 Y2 c2 Y1) r g) := by
  unfold inv6 invNorm
  fin_cases g <;> pointwise [k0_pay27, k0_pay26, k0_pay25, k0_pay24]
  all_goals
    repeat' split
    all_goals first
      | (exfalso; omega)
      | (with_reducible refine congrArg₂ HMul.hMul (congrArg _ (congrArg (ix2 r) (Fin.ext ?_))) ?_
         · simp [at6] <;> omega
         · rfl)
      | exact congrArg _ (congrArg (ix2 r) (Fin.ext (by simp [at6] <;> omega)))

/-- The third part: four heads of keys, normalised, then two heads of values. -/
theorem head2 (Y : FVec Ideal S512x768 .f32) (c3 c0 : Vec Ideal S1x768 .f32) (Y3 : Vec Ideal S512x768 .f32) (c1 : Vec Ideal S1x768 .f32) (Y2 : Vec Ideal S512x768 .f32) (c2 : Vec Ideal S1x768 .f32) (Y1 : Vec Ideal S512x768 .f32) (r : Fin 512) (g : Fin 6) (l : Fin 128) :
    k0_pay38 (k0_pay35 Y c3 c0 Y3 c1 Y2 c2 Y1) (k0_pay36 Y c3 c0 Y3 c1 Y2 c2 Y1) (k0_pay37 Y c3 c0 Y3 c1 Y2 c2 Y1) (ix2 r (at6 g l))
      = if g.val < 4 then k0_pay35 Y c3 c0 Y3 c1 Y2 c2 Y1 (ix2 r (at6 g l)) * inv6 (k0_pay35 Y c3 c0 Y3 c1 Y2 c2 Y1) r g
        else k0_pay35 Y c3 c0 Y3 c1 Y2 c2 Y1 (ix2 r (at6 g l)) := by
  unfold inv6 invNorm
  fin_cases g <;> pointwise [k0_pay38, k0_pay37, k0_pay36]
  all_goals
    repeat' split
    all_goals first
      | (exfalso; omega)
      | (with_reducible refine congrArg₂ HMul.hMul (congrArg _ (congrArg (ix2 r) (Fin.ext ?_))) ?_
         · simp [at6] <;> omega
         · rfl)
      | exact congrArg _ (congrArg (ix2 r) (Fin.ext (by simp [at6] <;> omega)))

end Cert.Kernel3Ideal.RefValue

end
-- ==== Proof.ProjBlk.lean ====
/- The input projection's kernel: the blocks that a grid point reads, as entries of the arguments. -/
module

public import proofs.«01_k».proof.Proof.ProjHead
public import proofs.«01_k».proof.Proof.Gen.Kernel3Ideal.Value

@[expose] public section

set_option maxRecDepth 16384

noncomputable section

namespace Cert.Kernel3Ideal.RefValue

open Cert.Kernel3Ideal Cert.Kernel3Ideal.Gen Idealize.ShloMosaic Idealize.ShloMosaic.TcCoe Cert.ProjSpec Cert.Rows

variable (m : (ℓ : Loc nD τ sig) → Buf (Elt Ideal) ℓ)

/-- Which block each window reads or writes at a grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] :=
  (by decide +kernel : ∀ t : Fin grid0.N, _)

/-- There are 64 grid points. -/
theorem lt64 (t : Fin cfg0.N) : t.val < 64 := t.isLt

/-- The sequence that a grid point works on. -/
def bat (t : Fin cfg0.N) : Fin 8 := ⟨t.val / 8, by have := lt64 t; omega⟩

/-- The position in that sequence of a row of the point's blocks. -/
def pos (t : Fin cfg0.N) (r : Fin 512) : Fin 4096 := ⟨t.val % 8 * 512 + r.val, by omega⟩

theorem x_read (c : Dev nD) (t : Fin cfg0.N) (r : Fin 512) (k : Fin 1024) :
    iblk m c 0 t (ix2 r k) = m ((c.tc : Thread nD τ).loc main_arg0) (ix3 (bat t) (pos t r) k) := by
  have := lt64 t
  unfold bat pos; blk_ext! [iblk, V, idx t]

theorem n_read (c : Dev nD) (t : Fin cfg0.N) (k : Fin 1024) :
    iblk m c 1 t (ix2 0 k) = m ((c.tc : Thread nD τ).loc main_arg1) (ix2 0 k) := by
  blk_ext! [iblk, V, idx t]

theorem c_read (c : Dev nD) (t : Fin cfg0.N) (i : Fin 4) (j : Fin 3072) :
    iblk m c 4 t (ix2 i j) = m ((c.tc : Thread nD τ).loc main_arg3) (ix3 0 i j) := by
  blk_ext! [iblk, V, idx t]

end Cert.Kernel3Ideal.RefValue

end
-- ==== Proof.ProjW.lean ====
/- The input projection's kernel: the weights that its host line puts side by side. -/
module

public import proofs.«01_k».proof.Proof.ProjBlk

@[expose] public section

set_option maxRecDepth 16384

noncomputable section

namespace Cert.Kernel3Ideal.RefValue

open Cert.Kernel3Ideal Cert.Kernel3Ideal.Gen Idealize.ShloMosaic Idealize.ShloMosaic.TcCoe Cert.ProjSpec Cert.Rows

variable (m : (ℓ : Loc nD τ sig) → Buf (Elt Ideal) ℓ)

/-- The input weights as the kernel's host line keeps them. -/
def wflat (c : Dev nD) : FVec Ideal S1024x7768 .bf16 :=
  truncf .bf16 (shapeCast S1024x7768 (m ((c.tc : Thread nD τ).loc main_arg2)) shapeCasts_S1x1024x7768_S1024x7768 : FVec Ideal S1024x7768 .f32) bitsLt_bf16_f32

/-- The gate weights as the kernel's host line keeps them. -/
def gflat (c : Dev nD) : FVec Ideal S1024x2048 .bf16 :=
  truncf .bf16 (shapeCast S1024x2048 (m ((c.tc : Thread nD τ).loc main_arg4)) shapeCasts_S1x1024x2048_S1024x2048 : FVec Ideal S1024x2048 .f32) bitsLt_bf16_f32

/-- The input weights without their leading axis. -/
theorem flatW (x : FVec Ideal S1x1024x7768 .f32) (k : Fin 1024) (j : Fin 7768) :
    (truncf .bf16 (shapeCast S1024x7768 x shapeCasts_S1x1024x7768_S1024x7768 : FVec Ideal S1024x7768 .f32) bitsLt_bf16_f32 : FVec Ideal S1024x7768 .bf16) (ix2 k j) = x (ix3 0 k j) := by
  pointwise

/-- The gate weights without their leading axis. -/
theorem flatG (x : FVec Ideal S1x1024x2048 .f32) (k : Fin 1024) (j : Fin 2048) :
    (truncf .bf16 (shapeCast S1024x2048 x shapeCasts_S1x1024x2048_S1024x2048 : FVec Ideal S1024x2048 .f32) bitsLt_bf16_f32 : FVec Ideal S1024x2048 .bf16) (ix2 k j) = x (ix3 0 k j) := by
  pointwise

/-- Three arrays side by side. -/
theorem catS (x0 : FVec Ideal S1024x16 .bf16) (x1 : FVec Ideal S1024x8 .bf16) (x2 : FVec Ideal S1024x104 .bf16) (k : Fin 1024) (j : Fin 128) :
    (concatenate S1024x128 1 [⟨S1024x16, x0⟩, ⟨S1024x8, x1⟩, ⟨S1024x104, x2⟩] concatenates_S1024x16_S1024x8_S1024x104_S1024x128_d1 : FVec Ideal S1024x128 .bf16) (ix2 k j) = if h : j.val < 16 then x0 (ix2 k ⟨j.val, h⟩) else if h : j.val < 24 then x1 (ix2 k ⟨j.val - 16, by omega⟩) else x2 (ix2 k ⟨j.val - 24, by omega⟩) := by
  pointwise
  repeat' split
  all_goals first
    | (exfalso; omega)
    | with_reducible rfl
    | exact congrArg _ (congrArg (ix2 k) (Fin.ext (by dsimp only <;> omega)))

set_option maxHeartbeats 1000000 in
/-- Seven arrays side by side. -/
theorem catW (x0 : FVec Ideal S1024x4096 .bf16) (x1 : FVec Ideal S1024x2048 .bf16) (x2 : FVec Ideal S1024x3584 .bf16) (x3 : FVec Ideal S1024x64 .bf16) (x4 : FVec Ideal S1024x64 .bf16) (x5 : FVec Ideal S1024x64 .bf16) (x6 : FVec Ideal S1024x64 .bf16) (k : Fin 1024) (j : Fin 9984) :
    (concatenate S1024x9984 1 [⟨S1024x4096, x0⟩, ⟨S1024x2048, x1⟩, ⟨S1024x3584, x2⟩, ⟨S1024x64, x3⟩, ⟨S1024x64, x4⟩, ⟨S1024x64, x5⟩, ⟨S1024x64, x6⟩] concatenates_S1024x4096_S1024x2048_S1024x3584_S1024x64_S1024x64_S1024x64_S1024x64_S1024x9984_d1 : FVec Ideal S1024x9984 .bf16) (ix2 k j) = if h : j.val < 4096 then x0 (ix2 k ⟨j.val, h⟩) else if h : j.val < 6144 then x1 (ix2 k ⟨j.val - 4096, by omega⟩) else if h : j.val < 9728 then x2 (ix2 k ⟨j.val - 6144, by omega⟩) else if h : j.val < 9792 then x3 (ix2 k ⟨j.val - 9728, by omega⟩) else if h : j.val < 9856 then x4 (ix2 k ⟨j.val - 9792, by omega⟩) else if h : j.val < 9920 then x5 (ix2 k ⟨j.val - 9856, by omega⟩) else x6 (ix2 k ⟨j.val - 9920, by omega⟩) := by
  pointwise
  repeat' split
  all_goals first
    | (exfalso; omega)
    | with_reducible rfl
    | exact congrArg _ (congrArg (ix2 k) (Fin.ext (by dsimp only <;> omega)))

/-- The columns that are cut out of the input weights, and the columns of zeros. -/
theorem slices (x0 : FVec Ideal S1024x7768 .bf16) (k : Fin 1024) :
    (∀ j, (extractStridedSlice S1024x16 ![0, 4096] (x0) slices_S1024x7768_S1024x16_0_4096 : FVec Ideal S1024x16 .bf16) (ix2 k j) = x0 (ix2 k ⟨4096 + j.val, by omega⟩))
    ∧ (∀ j, (extractStridedSlice S1024x8 ![0, 7760] (x0) slices_S1024x7768_S1024x8_0_7760 : FVec Ideal S1024x8 .bf16) (ix2 k j) = x0 (ix2 k ⟨7760 + j.val, by omega⟩))
    ∧ (∀ j, (extractStridedSlice S1024x4096 ![0, 0] (x0) slices_S1024x7768_S1024x4096_0_0 : FVec Ideal S1024x4096 .bf16) (ix2 k j) = x0 (ix2 k ⟨j.val, by omega⟩))
    ∧ (∀ j, (extractStridedSlice S1024x3584 ![0, 4112] (x0) slices_S1024x7768_S1024x3584_0_4112 : FVec Ideal S1024x3584 .bf16) (ix2 k j) = x0 (ix2 k ⟨4112 + j.val, by omega⟩))
    ∧ (∀ j, (extractStridedSlice S1024x64 ![0, 7696] (x0) slices_S1024x7768_S1024x64_0_7696 : FVec Ideal S1024x64 .bf16) (ix2 k j) = x0 (ix2 k ⟨7696 + j.val, by omega⟩))
    ∧ (∀ j, (broadcastInDim S1024x104 ![] bcast_S_S1024x104 (constant S_ .bf16 0x0000#16) : FVec Ideal S1024x104 .bf16) (ix2 k j) = 0) ∧ (∀ j, (broadcastInDim S1024x64 ![] bcast_S_S1024x64 (constant S_ .bf16 0x0000#16) : FVec Ideal S1024x64 .bf16) (ix2 k j) = 0) := by
  refine ⟨?_, ?_, ?_, ?_, ?_, ?_, ?_⟩ <;> intro j <;> pointwise

/-- The small weights, column by column. -/
theorem cols (x0 : FVec Ideal S1024x7768 .bf16) (k : Fin 1024) (j : Fin 128) :
    (concatenate S1024x128 1 [⟨S1024x16, (extractStridedSlice S1024x16 ![0, 4096] (x0) slices_S1024x7768_S1024x16_0_4096 : FVec Ideal S1024x16 .bf16)⟩, ⟨S1024x8, (extractStridedSlice S1024x8 ![0, 7760] (x0) slices_S1024x7768_S1024x8_0_7760 : FVec Ideal S1024x8 .bf16)⟩, ⟨S1024x104, (broadcastInDim S1024x104 ![] bcast_S_S1024x104 (constant S_ .bf16 0x0000#16) : FVec Ideal S1024x104 .bf16)⟩] concatenates_S1024x16_S1024x8_S1024x104_S1024x128_d1 : FVec Ideal S1024x128 .bf16) (ix2 k j) = scol (fun j => x0 (ix2 k j)) j := by
  obtain ⟨s1, s2, s3, s4, s5, s6, s7⟩ := slices x0 k
  rw [catS]
  simp only [s1, s2, s6]
  unfold scol
  repeat' split
  all_goals first
    | (exfalso; omega)
    | with_reducible rfl
    | exact congrArg _ (congrArg (ix2 k) (Fin.ext (by dsimp only <;> omega)))

/-- The large weights, column by column. -/
theorem colw (x0 : FVec Ideal S1024x7768 .bf16) (x1 : FVec Ideal S1024x2048 .bf16) (k : Fin 1024) (j : Fin 9984) :
    (concatenate S1024x9984 1 [⟨S1024x4096, (extractStridedSlice S1024x4096 ![0, 0] (x0) slices_S1024x7768_S1024x4096_0_0 : FVec Ideal S1024x4096 .bf16)⟩, ⟨S1024x2048, x1⟩, ⟨S1024x3584, (extractStridedSlice S1024x3584 ![0, 4112] (x0) slices_S1024x7768_S1024x3584_0_4112 : FVec Ideal S1024x3584 .bf16)⟩, ⟨S1024x64, (extractStridedSlice S1024x64 ![0, 7696] (x0) slices_S1024x7768_S1024x64_0_7696 : FVec Ideal S1024x64 .bf16)⟩, ⟨S1024x64, (broadcastInDim S1024x64 ![] bcast_S_S1024x64 (constant S_ .bf16 0x0000#16) : FVec Ideal S1024x64 .bf16)⟩, ⟨S1024x64, (broadcastInDim S1024x64 ![] bcast_S_S1024x64 (constant S_ .bf16 0x0000#16) : FVec Ideal S1024x64 .bf16)⟩, ⟨S1024x64, (extractStridedSlice S1024x64 ![0, 7696] (x0) slices_S1024x7768_S1024x64_0_7696 : FVec Ideal S1024x64 .bf16)⟩] concatenates_S1024x4096_S1024x2048_S1024x3584_S1024x64_S1024x64_S1024x64_S1024x64_S1024x9984_d1 : FVec Ideal S1024x9984 .bf16) (ix2 k j) = wcol (fun j => x0 (ix2 k j)) (fun j => x1 (ix2 k j)) j := by
  obtain ⟨s1, s2, s3, s4, s5, s6, s7⟩ := slices x0 k
  rw [catW]
  simp only [s3, s4, s5, s7]
  unfold wcol
  repeat' split
  all_goals first
    | (exfalso; omega)
    | with_reducible rfl
    | exact congrArg _ (congrArg (ix2 k) (Fin.ext (by dsimp only <;> omega)))

/-- The small weights as the launch finds them. -/
theorem ws_V (c : Dev nD) : (V m c main_v6 : FVec Ideal S1024x128 .bf16) = concatenate S1024x128 1 [⟨S1024x16, (extractStridedSlice S1024x16 ![0, 4096] (wflat m c) slices_S1024x7768_S1024x16_0_4096 : FVec Ideal S1024x16 .bf16)⟩, ⟨S1024x8, (extractStridedSlice S1024x8 ![0, 7760] (wflat m c) slices_S1024x7768_S1024x8_0_7760 : FVec Ideal S1024x8 .bf16)⟩, ⟨S1024x104, (broadcastInDim S1024x104 ![] bcast_S_S1024x104 (constant S_ .bf16 0x0000#16) : FVec Ideal S1024x104 .bf16)⟩] concatenates_S1024x16_S1024x8_S1024x104_S1024x128_d1 := by
  rfl

/-- The large weights as the launch finds them. -/
theorem w_V (c : Dev nD) : (V m c main_v14 : FVec Ideal S1024x9984 .bf16) = concatenate S1024x9984 1 [⟨S1024x4096, (extractStridedSlice S1024x4096 ![0, 0] (wflat m c) slices_S1024x7768_S1024x4096_0_0 : FVec Ideal S1024x4096 .bf16)⟩, ⟨S1024x2048, gflat m c⟩, ⟨S1024x3584, (extractStridedSlice S1024x3584 ![0, 4112] (wflat m c) slices_S1024x7768_S1024x3584_0_4112 : FVec Ideal S1024x3584 .bf16)⟩, ⟨S1024x64, (extractStridedSlice S1024x64 ![0, 7696] (wflat m c) slices_S1024x7768_S1024x64_0_7696 : FVec Ideal S1024x64 .bf16)⟩, ⟨S1024x64, (broadcastInDim S1024x64 ![] bcast_S_S1024x64 (constant S_ .bf16 0x0000#16) : FVec Ideal S1024x64 .bf16)⟩, ⟨S1024x64, (broadcastInDim S1024x64 ![] bcast_S_S1024x64 (constant S_ .bf16 0x0000#16) : FVec Ideal S1024x64 .bf16)⟩, ⟨S1024x64, (extractStridedSlice S1024x64 ![0, 7696] (wflat m c) slices_S1024x7768_S1024x64_0_7696 : FVec Ideal S1024x64 .bf16)⟩] concatenates_S1024x4096_S1024x2048_S1024x3584_S1024x64_S1024x64_S1024x64_S1024x64_S1024x9984_d1 := by
  rfl

theorem ws_whole (c : Dev nD) (t : Fin cfg0.N) (k : Fin 1024) (j : Fin 128) :
    iblk m c 3 t (ix2 k j) = (V m c main_v6 : FVec Ideal S1024x128 .bf16) (ix2 k j) := by
  blk_ext [iblk, idx t]

theorem w_whole (c : Dev nD) (t : Fin cfg0.N) (k : Fin 1024) (j : Fin 9984) :
    iblk m c 2 t (ix2 k j) = (V m c main_v14 : FVec Ideal S1024x9984 .bf16) (ix2 k j) := by
  blk_ext [iblk, idx t]

/-- The small weights' block, as entries of the arguments. -/
theorem ws_read (c : Dev nD) (t : Fin cfg0.N) (k : Fin 1024) (j : Fin 128) :
    iblk m c 3 t (ix2 k j) = scol (fun j => m ((c.tc : Thread nD τ).loc main_arg2) (ix3 0 k j)) j := by
  rw [ws_whole, ws_V, cols]
  exact congrArg (fun f => scol f j) (funext fun j => flatW _ k j)

/-- The large weights' block, as entries of the arguments. -/
theorem w_read (c : Dev nD) (t : Fin cfg0.N) (k : Fin 1024) (j : Fin 9984) :
    iblk m c 2 t (ix2 k j) = wcol (fun j => m ((c.tc : Thread nD τ).loc main_arg2) (ix3 0 k j)) (fun j => m ((c.tc : Thread nD τ).loc main_arg4) (ix3 0 k j)) j := by
  rw [w_whole, w_V, colw]
  exact congrArg₂ (fun f g => wcol f g j) (funext fun j => flatW _ k j) (funext fun j => flatG _ k j)

end Cert.Kernel3Ideal.RefValue

end
-- ==== Proof.ProjWork.lean ====
/- The input projection's kernel: the columns of the projection, and the work buffer that the convolution looks back in. -/
module

public import proofs.«01_k».proof.Proof.ProjW
public import Idealize.ShloMosaic.Lib.Pipeline.ReadBack

@[expose] public section

set_option maxRecDepth 16384

noncomputable section

namespace Cert.Kernel3Ideal.RefValue

open Cert.Kernel3Ideal Cert.Kernel3Ideal.Gen Idealize.ShloMosaic Idealize.ShloMosaic.TcCoe Cert.ProjSpec Cert.Rows

variable (m : (ℓ : Loc nD τ sig) → Buf (Elt Ideal) ℓ)

/-- Column `j` of the projection of sequence `b` at position `t`, from the arguments. -/
def kcol (c : Dev nD) (b : Fin 8) (j : Fin 9984) (t : Fin 4096) : EReal :=
  lin (rmsRow (fun k => m ((c.tc : Thread nD τ).loc main_arg0) (ix3 b t k)) (fun k => m ((c.tc : Thread nD τ).loc main_arg1) (ix2 0 k)))
    (fun k => wcol (fun j => m ((c.tc : Thread nD τ).loc main_arg2) (ix3 0 k j)) (fun j => m ((c.tc : Thread nD τ).loc main_arg4) (ix3 0 k j)) j)

/-- The normalised rows of the block of a grid point. -/
abbrev rows (c : Dev nD) (t : Fin cfg0.N) : FVec Ideal S512x1024 .bf16 := k0_pay3 (iblk m c 0 t) (iblk m c 1 t)

/-- The position of a row that lies `8 - i` rows before a block. -/
def before (t : Fin cfg0.N) (i : Fin 8) (h : ¬ t.val % 8 = 0) : Fin 4096 := ⟨t.val % 8 * 512 - 8 + i.val, by omega⟩

/-- A load of the work buffer from row `d` on, after the rows `F` were put at row 8 and the rows `B` at row 0. -/
abbrev work (F : S512x768.Idx → Elt Ideal .f32) (B : S8x768.Idx → Elt Ideal .f32) (M : List (View.Piece (Elt Ideal) S520x768 .f32)) (d : ℕ)
    (hd : ∀ a : Fin 2, (![d, 0] : Fin 2 → ℕ) a + (![512, 768] : Fin 2 → ℕ) a ≤ S520x768.size a) : FVec Ideal S512x768 .f32 :=
  (View.whole cc0_scratch1 : View sig .tc _ S520x768 .f32).readCov (Val := Elt Ideal) (⟨Rect.unit ![8, 0] ![512, 768] inb_S520x768_S512x768_8_0, F⟩ :: ⟨Rect.unit ![0, 0] ![8, 768] inb_S520x768_S8x768_0_0, B⟩ :: M)
    (Rect.unit (s := S520x768) ![d, 0] ![512, 768] hd).toLoadRect

/-- The last store leaves its payload where it lies. -/
theorem canon_hit {Val : EltTy → Type} [∀ e, Nonempty (Val e)] {S : Shape} {e : EltTy} (off size : Fin S.rank → ℕ) (inb : ∀ a, off a + size a ≤ S.size a)
    (w : (Rect.unit off size inb).shape.Idx → Val e) (L : List (View.Piece Val S e)) (y : S.Idx) (x : (Rect.unit off size inb).shape.Idx) (h : ∀ a, (y a : ℕ) = off a + x a) :
    View.canon (⟨Rect.unit off size inb, w⟩ :: L) y = w x := by
  have : y = (Rect.unit off size inb).emb x := funext fun a => Fin.ext (by rw [h a, Rect.emb_apply]; show _ = off a + 1 * (x a : ℕ); omega)
  rw [this, View.canon_cons_emb]

/-- Before the last store's place the earlier stores are read. -/
theorem canon_miss {Val : EltTy → Type} [∀ e, Nonempty (Val e)] {S : Shape} {e : EltTy} (off size : Fin S.rank → ℕ) (inb : ∀ a, off a + size a ≤ S.size a)
    (w : (Rect.unit off size inb).shape.Idx → Val e) (L : List (View.Piece Val S e)) (y : S.Idx) (a : Fin S.rank) (h : (y a : ℕ) < off a) :
    View.canon (⟨Rect.unit off size inb, w⟩ :: L) y = View.canon L y := by
  refine View.canon_cons_of_not_mem _ _ fun hm => ?_
  obtain ⟨x, rfl⟩ := (Rect.unit off size inb).exists_idx_of_mem hm
  rw [Rect.idx_unit_val] at h
  omega

/-- The products of a block's rows with 768 columns of the weights are columns of the projection. -/
theorem rows_lin (c : Dev nD) (t : Fin cfg0.N) (w : Vec Ideal S1024x768 .bf16) (o : ℕ) (ho : o + 768 ≤ 9984)
    (hw : ∀ k (j : Fin 768), w (ix2 k j) = iblk m c 2 t (ix2 k ⟨o + j.val, by omega⟩)) (r : Fin 512) (j : Fin 768) :
    lin (fun k => rows m c t (ix2 r k)) (fun k => w (ix2 k j)) = kcol m c (bat t) ⟨o + j.val, by omega⟩ (pos t r) := by
  unfold kcol
  refine congrArg₂ lin (funext fun k => ?_) (funext fun k => ?_)
  · rw [rows, norm_apply]
    simp only [x_read, n_read]
  · rw [hw, w_read]

/-- What the first stores of a list leave where they cover an index does not depend on the earlier ones. -/
theorem canon_prefix {Val : EltTy → Type} [∀ e, Nonempty (Val e)] {S : Shape} {e : EltTy} (L M : List (View.Piece Val S e)) (y : S.Idx)
    (h : ∃ p ∈ L, y ∈ p.1.set) : View.canon (L ++ M) y = View.canon L y := by
  induction L with
  | nil => obtain ⟨p, hp, _⟩ := h; simp at hp
  | cons p L ih =>
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact ih ⟨q, hq, hy⟩

/-- A load of the work buffer, entry by entry. -/
theorem work_apply (F : S512x768.Idx → Elt Ideal .f32) (B : S8x768.Idx → Elt Ideal .f32) (M : List (View.Piece (Elt Ideal) S520x768 .f32)) (d : ℕ)
    (hd : ∀ a : Fin 2, (![d, 0] : Fin 2 → ℕ) a + (![512, 768] : Fin 2 → ℕ) a ≤ S520x768.size a) (hd8 : d ≤ 8) (r : Fin 512) (j : Fin 768) :
    work F B M d hd (ix2 r j) = if h : r.val + d < 8 then B (ix2 ⟨r.val + d, h⟩ j) else F (ix2 ⟨r.val + d - 8, by omega⟩ j) := by
  unfold work
  rw [View.readCov_eq_canon']
  beta_reduce
  have e0 : (((Rect.unit (s := S520x768) ![d, 0] ![512, 768] hd).toLoadRect.idx (ix2 r j)) 0).val = d + r.val := by
    show d + 1 * r.val = _; omega
  have e1 : (((Rect.unit (s := S520x768) ![d, 0] ![512, 768] hd).toLoadRect.idx (ix2 r j)) 1).val = j.val := by
    show 0 + 1 * j.val = _; omega
  revert e0 e1
  generalize (Rect.unit (s := S520x768) ![d, 0] ![512, 768] hd).toLoadRect.idx (ix2 r j) = y
  intro e0 e1
  split
  case isTrue h =>
    refine Eq.trans (canon_miss (Val := Elt Ideal) (e := .f32) (S := S520x768) ![8, 0] ![512, 768] inb_S520x768_S512x768_8_0 F _ y 0 (show (y 0).val < 8 by omega)) ?_
    refine canon_hit (Val := Elt Ideal) (e := .f32) (S := S520x768) ![0, 0] ![8, 768] inb_S520x768_S8x768_0_0 B M y (ix2 ⟨r.val + d, h⟩ j) fun a => ?_
    match a with
    | ⟨0, _⟩ => exact e0.trans (by show _ = 0 + (r.val + d); omega)
    | ⟨1, _⟩ => exact e1.trans (by show _ = 0 + j.val; omega)
  case isFalse h =>
    refine canon_hit (Val := Elt Ideal) (e := .f32) (S := S520x768) ![8, 0] ![512, 768] inb_S520x768_S512x768_8_0 F _ y (ix2 ⟨r.val + d - 8, by omega⟩ j) fun a => ?_
    match a with
    | ⟨0, _⟩ => exact e0.trans (by show _ = 8 + (r.val + d - 8); omega)
    | ⟨1, _⟩ => exact e1.trans (by show _ = 0 + j.val; omega)

/-- A step back from a row of a block stays in the block, or leads to the block before, or before the sequence. -/
theorem tap_work (y : Fin 4096 → EReal) (t : Fin cfg0.N) (r : Fin 512) (d : ℕ) (hd8 : d ≤ 8) :
    tap y (pos t r) (8 - d) = if h : r.val + d < 8 then (if h : t.val % 8 = 0 then 0 else y (before t ⟨r.val + d, by omega⟩ h)) else y (pos t ⟨r.val + d - 8, by omega⟩) := by
  unfold tap pos before
  dsimp only
  repeat' split
  all_goals first
    | rfl
    | (exfalso; omega)
    | exact congrArg y (Fin.ext (by dsimp only <;> omega))

/-- A load of the work buffer `8 - d` rows above the block reads the columns `8 - d` steps back. -/
theorem work_tap (y : Fin 768 → Fin 4096 → EReal) (t : Fin cfg0.N) (F : S512x768.Idx → Elt Ideal .f32) (B : S8x768.Idx → Elt Ideal .f32) (M : List (View.Piece (Elt Ideal) S520x768 .f32)) (d : ℕ)
    (hd : ∀ a : Fin 2, (![d, 0] : Fin 2 → ℕ) a + (![512, 768] : Fin 2 → ℕ) a ≤ S520x768.size a) (hd8 : d ≤ 8)
    (hF : ∀ r j, F (ix2 r j) = y j (pos t r)) (hB : ∀ i j, B (ix2 i j) = if h : t.val % 8 = 0 then 0 else y j (before t i h)) (r : Fin 512) (j : Fin 768) :
    work F B M d hd (ix2 r j) = tap (y j) (pos t r) (8 - d) := by
  rw [work_apply F B M d hd hd8, tap_work _ _ _ d hd8]
  simp only [hF, hB]

/-- The rows put before a block are the last rows of the block before, zeros where a sequence begins. -/
theorem before_lin (c : Dev nD) (t : Fin cfg0.N) (o : ℕ) (ho : o + 768 ≤ 9984) (b : BitVec 1) (hb : b = 1#1 ↔ t.val % 8 = 0) (v : Vec Ideal S1x8x768 .f32)
    (hv : ∀ (h : ¬ t.val % 8 = 0) i (j : Fin 768), v (ix3 0 i j) = kcol m c (bat t) ⟨o + j.val, by omega⟩ (before t i h)) (i : Fin 8) (j : Fin 768) :
    (if b = 1#1 then (0 : EReal) else v (ix3 0 i j)) = if h : t.val % 8 = 0 then 0 else kcol m c (bat t) ⟨o + j.val, by omega⟩ (before t i h) := by
  by_cases h : t.val % 8 = 0
  · rw [if_pos (hb.mpr h), dif_pos h]
  · rw [if_neg (fun e => h (hb.mp e)), dif_neg h, hv h]

end Cert.Kernel3Ideal.RefValue

end
-- ==== Proof.ProjPart.lean ====
/- The input projection's kernel: the four convolved parts of a block are the large result's. -/
module

public import proofs.«01_k».proof.Proof.ProjWork

@[expose] public section

set_option maxRecDepth 16384

noncomputable section

namespace Cert.Kernel3Ideal.RefValue

open Cert.Kernel3Ideal Cert.Kernel3Ideal.Gen Idealize.ShloMosaic Idealize.ShloMosaic.TcCoe Cert.ProjSpec Cert.Rows

variable (m : (ℓ : Loc nD τ sig) → Buf (Elt Ideal) ℓ)

/-- The taps of the convolution. -/
def taps (c : Dev nD) (i : Fin 4) (j : Fin 3072) : EReal := m ((c.tc : Thread nD τ).loc main_arg3) (ix3 0 i j)

/-- What a convolved part of a grid point is given: 768 columns of the weights from column `o` on, their taps, the mark of a
    sequence's first block, and the last rows of the block before. -/
structure Given (c : Dev nD) (t : Fin cfg0.N) (o : ℕ) (ho : o + 768 ≤ 3072) (w : Vec Ideal S1024x768 .bf16) (c0 c1 c2 c3 : Vec Ideal S1x768 .f32)
    (b : BitVec 1) (v : Vec Ideal S1x8x768 .f32) : Prop where
  weights : ∀ k (j : Fin 768), w (ix2 k j) = iblk m c 2 t (ix2 k ⟨o + j.val, by omega⟩)
  tap0 : ∀ j : Fin 768, c0 (ix2 0 j) = iblk m c 4 t (ix2 0 ⟨o + j.val, by omega⟩)
  tap1 : ∀ j : Fin 768, c1 (ix2 0 j) = iblk m c 4 t (ix2 1 ⟨o + j.val, by omega⟩)
  tap2 : ∀ j : Fin 768, c2 (ix2 0 j) = iblk m c 4 t (ix2 2 ⟨o + j.val, by omega⟩)
  tap3 : ∀ j : Fin 768, c3 (ix2 0 j) = iblk m c 4 t (ix2 3 ⟨o + j.val, by omega⟩)
  start : b = 1#1 ↔ t.val % 8 = 0
  past : ∀ (h : ¬ t.val % 8 = 0) i (j : Fin 768), v (ix3 0 i j) = kcol m c (bat t) ⟨o + j.val, by omega⟩ (before t i h)

/-- The large result in a query's or key's head. -/
theorem big_head (y : Fin 9984 → Fin 4096 → EReal) (w : Fin 4 → Fin 3072 → EReal) (t : Fin 4096) (o : ℕ) (ho : o % 128 = 0) (g : Fin 6) (l : Fin 128) (h : o + g.val * 128 + 128 ≤ 2048) :
    big y w t ⟨o + (at6 g l).val, by dsimp only; omega⟩
      = act (y ⟨o + (at6 g l).val, by dsimp only; omega⟩) (fun i => w i ⟨o + (at6 g l).val, by dsimp only; omega⟩) t
        * (if o + (at6 g l).val < 1024 then invNorm (fun l => act (y ⟨o + (at6 g l).val, by dsimp only; omega⟩) (fun i => w i ⟨o + (at6 g l).val, by dsimp only; omega⟩) t) * Ideal.ofBits FTy.f32 0x3DB504F3#32
          else invNorm (fun l => act (y ⟨o + (at6 g l).val, by dsimp only; omega⟩) (fun i => w i ⟨o + (at6 g l).val, by dsimp only; omega⟩) t)) := by
  have e : ∀ l' : Fin 128, headCol (o + (g.val * 128 + l.val)) l' = o + (g.val * 128 + l'.val) := fun l' => by unfold headCol; omega
  unfold big
  dsimp only [at6]
  rw [dif_pos (by omega), dif_pos (by omega)]
  simp only [e]

/-- What a convolved part is given makes what the convolution is made of. -/
theorem feeds {c : Dev nD} {t : Fin cfg0.N} {o : ℕ} {ho : o + 768 ≤ 3072} {w : Vec Ideal S1024x768 .bf16} {c0 c1 c2 c3 : Vec Ideal S1x768 .f32}
    {b : BitVec 1} {v : Vec Ideal S1x8x768 .f32} (e : Given m c t o ho w c0 c1 c2 c3 b v) {Y F : FVec Ideal S512x768 .f32} {B : FVec Ideal S8x768 .f32}
    (hY : ∀ r j, Y (ix2 r j) = lin (fun k => rows m c t (ix2 r k)) (fun k => w (ix2 k j)))
    (hF : ∀ r j, F (ix2 r j) = lin (fun k => rows m c t (ix2 r k)) (fun k => w (ix2 k j)))
    (hB : ∀ i j, B (ix2 i j) = if b = 1#1 then 0 else v (ix3 0 i j)) (M : List (View.Piece (Elt Ideal) S520x768 .f32)) :
    Feeds Y (work F B M 5 inb_S520x768_S512x768_5_0) (work F B M 6 inb_S520x768_S512x768_6_0) (work F B M 7 inb_S520x768_S512x768_7_0) c0 c1 c2 c3
      (fun j => kcol m c (bat t) ⟨o + j.val, by omega⟩) (fun i j => taps m c i ⟨o + j.val, by omega⟩) (pos t) := by
  have f : ∀ r j, F (ix2 r j) = kcol m c (bat t) ⟨o + j.val, by omega⟩ (pos t r) := fun r j => (hF r j).trans (rows_lin m c t w o (by omega) e.weights r j)
  have p := fun i j => (hB i j).trans (before_lin m c t o (by omega) b e.start v e.past i j)
  have wt := fun d hd hd8 => work_tap (fun j => kcol m c (bat t) ⟨o + j.val, by omega⟩) t F B M d hd hd8 f p
  exact {
    now := fun r j => (hY r j).trans (rows_lin m c t w o (by omega) e.weights r j)
    back1 := fun r j => wt 7 inb_S520x768_S512x768_7_0 (by decide) r j
    back2 := fun r j => wt 6 inb_S520x768_S512x768_6_0 (by decide) r j
    back3 := fun r j => wt 5 inb_S520x768_S512x768_5_0 (by decide) r j
    tap0 := fun j => (e.tap0 j).trans (c_read m c t _ _)
    tap1 := fun j => (e.tap1 j).trans (c_read m c t _ _)
    tap2 := fun j => (e.tap2 j).trans (c_read m c t _ _)
    tap3 := fun j => (e.tap3 j).trans (c_read m c t _ _) }

/-- The first part of a block of the large result. -/
theorem part0 {c : Dev nD} {t : Fin cfg0.N} {w : Vec Ideal S1024x768 .bf16} {c0 c1 c2 c3 : Vec Ideal S1x768 .f32}
    {b : BitVec 1} {v : Vec Ideal S1x8x768 .f32} (e : Given m c t 0 (by decide) w c0 c1 c2 c3 b v) (M : List (View.Piece (Elt Ideal) S520x768 .f32)) (r : Fin 512) (j : Fin 768) :
    (fun (a : FVec Ideal S512x768 .f32) (y1 : Vec Ideal S512x768 .f32) => k0_pay15 (k0_pay10 a c2 y1) (k0_pay11 a c2 y1) (k0_pay12 a c2 y1) (k0_pay13 a c2 y1) (k0_pay14 a c2 y1))
        (k0_pay9 (rows m c t) w c3 c0 (work (k0_pay7 (rows m c t) w) (k0_pay6 b v) M 5 inb_S520x768_S512x768_5_0) c1 (work (k0_pay7 (rows m c t) w) (k0_pay6 b v) M 6 inb_S520x768_S512x768_6_0))
        (work (k0_pay7 (rows m c t) w) (k0_pay6 b v) M 7 inb_S520x768_S512x768_7_0) (ix2 r j)
      = big (kcol m c (bat t)) (taps m c) (pos t r) ⟨0 + j.val, by omega⟩ := by
  have f := feeds m e (fun r j => (dot_apply (rows m c t) w r j).1.1) (fun r j => (fill_apply (rows m c t) w r j).1.1) (fun i j => (before_apply b v i j).1.1) M
  obtain ⟨g, l, rfl⟩ := exists_at6 j
  beta_reduce
  rw [head0, big_head _ _ _ 0 (by decide) g l (by omega), if_pos (by dsimp only; omega)]
  unfold inv6
  simp only [act0 _ _ f]

/-- The second part. -/
theorem part1 {c : Dev nD} {t : Fin cfg0.N} {w : Vec Ideal S1024x768 .bf16} {c0 c1 c2 c3 : Vec Ideal S1x768 .f32}
    {b : BitVec 1} {v : Vec Ideal S1x8x768 .f32} (e : Given m c t 768 (by decide) w c0 c1 c2 c3 b v) (M : List (View.Piece (Elt Ideal) S520x768 .f32)) (r : Fin 512) (j : Fin 768) :
    (fun (Y : FVec Ideal S512x768 .f32) (y3 y2 y1 : Vec Ideal S512x768 .f32) =>
        k0_pay27 (k0_pay23 Y c3 c0 y3 c1 y2 c2 y1) (k0_pay24 Y c3 c0 y3 c1 y2 c2 y1) (k0_pay25 Y c3 c0 y3 c1 y2 c2 y1) (k0_pay26 Y c3 c0 y3 c1 y2 c2 y1))
        (k0_pay19 (rows m c t) w) (work (k0_pay21 (rows m c t) w) (k0_pay20 b v) M 5 inb_S520x768_S512x768_5_0)
        (work (k0_pay21 (rows m c t) w) (k0_pay20 b v) M 6 inb_S520x768_S512x768_6_0) (work (k0_pay21 (rows m c t) w) (k0_pay20 b v) M 7 inb_S520x768_S512x768_7_0) (ix2 r j)
      = big (kcol m c (bat t)) (taps m c) (pos t r) ⟨768 + j.val, by omega⟩ := by
  have f := feeds m e (fun r j => (dot_apply (rows m c t) w r j).1.2) (fun r j => (fill_apply (rows m c t) w r j).1.2) (fun i j => (before_apply b v i j).1.2) M
  obtain ⟨g, l, rfl⟩ := exists_at6 j
  beta_reduce
  rw [head1, big_head _ _ _ 768 (by decide) g l (by omega)]
  unfold inv6
  simp only [act1 f]
  by_cases h : g.val < 2
  · rw [if_pos h, if_pos (by omega)]
  · rw [if_neg h, if_neg (by omega)]

/-- The third part. -/
theorem part2 {c : Dev nD} {t : Fin cfg0.N} {w : Vec Ideal S1024x768 .bf16} {c0 c1 c2 c3 : Vec Ideal S1x768 .f32}
    {b : BitVec 1} {v : Vec Ideal S1x8x768 .f32} (e : Given m c t 1536 (by decide) w c0 c1 c2 c3 b v) (M : List (View.Piece (Elt Ideal) S520x768 .f32)) (r : Fin 512) (j : Fin 768) :
    (fun (Y : FVec Ideal S512x768 .f32) (y3 y2 y1 : Vec Ideal S512x768 .f32) =>
        k0_pay38 (k0_pay35 Y c3 c0 y3 c1 y2 c2 y1) (k0_pay36 Y c3 c0 y3 c1 y2 c2 y1) (k0_pay37 Y c3 c0 y3 c1 y2 c2 y1))
        (k0_pay31 (rows m c t) w) (work (k0_pay33 (rows m c t) w) (k0_pay32 b v) M 5 inb_S520x768_S512x768_5_0)
        (work (k0_pay33 (rows m c t) w) (k0_pay32 b v) M 6 inb_S520x768_S512x768_6_0) (work (k0_pay33 (rows m c t) w) (k0_pay32 b v) M 7 inb_S520x768_S512x768_7_0) (ix2 r j)
      = big (kcol m c (bat t)) (taps m c) (pos t r) ⟨1536 + j.val, by omega⟩ := by
  have f := feeds m e (fun r j => (dot_apply (rows m c t) w r j).2.1) (fun r j => (fill_apply (rows m c t) w r j).2.1) (fun i j => (before_apply b v i j).2.1) M
  obtain ⟨g, l, rfl⟩ := exists_at6 j
  beta_reduce
  rw [head2]
  unfold inv6
  simp only [act2 f]
  by_cases h : g.val < 4
  · rw [if_pos h, big_head _ _ _ 1536 (by decide) g l (by omega), if_neg (by dsimp only; omega)]
  · rw [if_neg h]
    unfold big
    rw [dif_pos (by dsimp only; omega), dif_neg (by dsimp only; omega)]

/-- The fourth part. -/
theorem part3 {c : Dev nD} {t : Fin cfg0.N} {w : Vec Ideal S1024x768 .bf16} {c0 c1 c2 c3 : Vec Ideal S1x768 .f32}
    {b : BitVec 1} {v : Vec Ideal S1x8x768 .f32} (e : Given m c t 2304 (by decide) w c0 c1 c2 c3 b v) (M : List (View.Piece (Elt Ideal) S520x768 .f32)) (r : Fin 512) (j : Fin 768) :
    k0_pay1 (k0_pay42 (rows m c t) w) (k0_pay46 c3) c0 (work (k0_pay44 (rows m c t) w) (k0_pay43 b v) M 5 inb_S520x768_S512x768_5_0) c1
        (work (k0_pay44 (rows m c t) w) (k0_pay43 b v) M 6 inb_S520x768_S512x768_6_0) c2 (work (k0_pay44 (rows m c t) w) (k0_pay43 b v) M 7 inb_S520x768_S512x768_7_0) (ix2 r j)
      = big (kcol m c (bat t)) (taps m c) (pos t r) ⟨2304 + j.val, by omega⟩ := by
  have f := feeds m e (fun r j => (dot_apply (rows m c t) w r j).2.2) (fun r j => (fill_apply (rows m c t) w r j).2.2) (fun i j => (before_apply b v i j).2.2) M
  rw [act3 f]
  unfold big
  rw [dif_pos (by dsimp only; omega), dif_neg (by dsimp only; omega)]

end Cert.Kernel3Ideal.RefValue

end
-- ==== Proof.ProjPoint.lean ====
/- The input projection's kernel: what a grid point leaves in each block that it writes. -/
module

public import proofs.«01_k».proof.Proof.ProjPart

@[expose] public section

set_option maxRecDepth 16384

noncomputable section

namespace Cert.Kernel3Ideal.RefValue

open Cert.Kernel3Ideal Cert.Kernel3Ideal.Gen Idealize.ShloMosaic Idealize.ShloMosaic.TcCoe Cert.ProjSpec Cert.Rows

variable (m : (ℓ : Loc nD τ sig) → Buf (Elt Ideal) ℓ)

/-- The rows kept from the point before, per part of the convolved columns: that point's last eight rows, wherever a sequence does not begin. -/
structure Past (c : Dev nD) (t : Fin cfg0.N) (v : Vec Ideal S4x8x768 .f32) : Prop where
  rows : ∀ (h : ¬ t.val % 8 = 0) (i : Fin 4) (k : Fin 8) (j : Fin 768), v (ix3 i k j) = kcol m c (bat t) ⟨768 * i.val + j.val, by omega⟩ (before t k h)

/-- A column range cut out of the large weights. -/
theorem cut_w (X : Vec Ideal S1024x9984 .bf16) (o : ℕ) (ho : o + 768 ≤ 9984) (inb : ∀ a : Fin 2, (![0, o] : Fin 2 → ℕ) a + (![1024, 768] : Fin 2 → ℕ) a ≤ S1024x9984.size a) (k : Fin 1024) (j : Fin 768) :
    View.ld (Val := Elt Ideal) (S := S1024x9984) (e' := .bf16) X (Rect.unit (s := S1024x9984) ![0, o] ![1024, 768] inb) (ix2 k j) = X (ix2 k ⟨o + j.val, by omega⟩) := by
  refine View.ld_unit_apply_of (Val := Elt Ideal) (S := S1024x9984) (e := .bf16) X ![0, o] ![1024, 768] inb (ix2 k j) (ix2 k ⟨o + j.val, by omega⟩) fun a => ?_
  match a with
  | ⟨0, _⟩ => exact (Nat.zero_add _).symm
  | ⟨1, _⟩ => rfl

/-- A column range cut out of one tap of the convolution. -/
theorem cut_tap (X : Vec Ideal S4x3072 .f32) (i : Fin 4) (o : ℕ) (ho : o + 768 ≤ 3072) (inb : ∀ a : Fin 2, (![i.val, o] : Fin 2 → ℕ) a + (![1, 768] : Fin 2 → ℕ) a ≤ S4x3072.size a) (j : Fin 768) :
    View.ld (Val := Elt Ideal) (S := S4x3072) (e' := .f32) X (Rect.unit (s := S4x3072) ![i.val, o] ![1, 768] inb) (ix2 0 j) = X (ix2 i ⟨o + j.val, by omega⟩) := by
  refine View.ld_unit_apply_of (Val := Elt Ideal) (S := S4x3072) (e := .f32) X ![i.val, o] ![1, 768] inb (ix2 0 j) (ix2 i ⟨o + j.val, by omega⟩) fun a => ?_
  match a with
  | ⟨0, _⟩ => rfl
  | ⟨1, _⟩ => rfl

/-- One part of the kept rows. -/
theorem cut_past (X : Vec Ideal S4x8x768 .f32) (i : Fin 4) (inb : ∀ a : Fin 3, (![i.val, 0, 0] : Fin 3 → ℕ) a + (![1, 8, 768] : Fin 3 → ℕ) a ≤ S4x8x768.size a) (k : Fin 8) (j : Fin 768) :
    View.ld (Val := Elt Ideal) (S := S4x8x768) (e' := .f32) X (Rect.unit (s := S4x8x768) ![i.val, 0, 0] ![1, 8, 768] inb) (ix3 0 k j) = X (ix3 i k j) := by
  refine View.ld_unit_apply_of (Val := Elt Ideal) (S := S4x8x768) (e := .f32) X ![i.val, 0, 0] ![1, 8, 768] inb (ix3 0 k j) (ix3 i k j) fun a => ?_
  match a with
  | ⟨0, _⟩ => rfl
  | ⟨1, _⟩ => exact (Nat.zero_add _).symm
  | ⟨2, _⟩ => exact (Nat.zero_add _).symm

/-- A part of the large result that is not convolved. -/
theorem plain (c : Dev nD) (t : Fin cfg0.N) (o : ℕ) (ho : 3072 ≤ o) (ho2 : o + 768 ≤ 9984) (inb : ∀ a : Fin 2, (![0, o] : Fin 2 → ℕ) a + (![1024, 768] : Fin 2 → ℕ) a ≤ S1024x9984.size a) (r : Fin 512) (j : Fin 768) (p : EReal)
    (e : p = lin (fun k => rows m c t (ix2 r k)) (fun k => View.ld (Val := Elt Ideal) (S := S1024x9984) (e' := .bf16) (iblk m c 2 t) (Rect.unit (s := S1024x9984) ![0, o] ![1024, 768] inb) (ix2 k j))) :
    p = big (kcol m c (bat t)) (taps m c) (pos t r) ⟨o + j.val, by omega⟩ := by
  unfold big
  rw [e, dif_neg (by dsimp only; omega)]
  exact rows_lin m c t _ o ho2 (cut_w (iblk m c 2 t) o ho2 inb) r j

/-- What a grid point keeps for the next: its last eight projected rows. -/
theorem halo (c : Dev nD) (t : Fin cfg0.N) (i : Fin 4) (k : Fin 8) (j : Fin 768) :
    (outsAt0 m c t.val t.isLt).2.2 (ix3 i k j) = kcol m c (bat t) ⟨768 * i.val + j.val, by omega⟩ (pos t ⟨504 + k.val, by omega⟩) := by
  have q : ∀ (o : ℕ) (ho : o + 768 ≤ 9984) (inb) (p : EReal), o = 768 * i.val → p = lin (fun l => rows m c t (ix2 ⟨504 + k.val, by omega⟩ l)) (fun l => View.ld (Val := Elt Ideal) (S := S1024x9984) (e' := .bf16) (iblk m c 2 t) (Rect.unit (s := S1024x9984) ![0, o] ![1024, 768] inb) (ix2 l j))
      → p = kcol m c (bat t) ⟨768 * i.val + j.val, by omega⟩ (pos t ⟨504 + k.val, by omega⟩) := by
    rintro o ho inb p rfl e
    rw [e]
    exact rows_lin m c t _ _ ho (cut_w (iblk m c 2 t) _ ho inb) ⟨504 + k.val, by omega⟩ j
  by_cases c0 : t.val % 64 = 0
  case' pos =>
    rw [outsAt0_A m c t c0]
    frame_out
    refine (canon_prefix [_, _, _, _] [_] _ ?_).trans ?_
    · exact View.cover_of_tiled_head _ _ _ (by rfl) _
    canon_tiles x h
  case' neg =>
    rw [outsAt0_B m c t c0]
    frame_out
    canon_tiles x h
  all_goals
    obtain ⟨a, k', j', rfl⟩ : ∃ (a : Fin 1) (k' : Fin 8) (j' : Fin 768), x = ix3 a k' j' := ⟨x 0, x 1, x 2, by pointwise⟩
    obtain rfl : a = 0 := by omega
    obtain rfl : k = k' := Fin.ext h1
    obtain rfl : j = j' := Fin.ext h2
  iterate 2
    case piece0 => exact q 2304 (by decide) _ _ (by have : i.val = 3 + 0 := h0; omega) (keep_apply _ _ _ _).2.2
    case piece1 => exact q 1536 (by decide) _ _ (by have : i.val = 2 + 0 := h0; omega) (keep_apply _ _ _ _).2.1
    case piece2 => exact q 768 (by decide) _ _ (by have : i.val = 1 + 0 := h0; omega) (keep_apply _ _ _ _).1.2
    case piece3 => exact q 0 (by decide) _ _ (by have : i.val = 0 := h0; omega) (keep_apply _ _ _ _).1.1

/-- The small block: the projection's narrow columns. -/
theorem small (c : Dev nD) (t : Fin cfg0.N) (r : Fin 512) (j : Fin 128) :
    (outsAt0 m c t.val t.isLt).2.1 (ix2 r j) = lin (rmsRow (fun k => m ((c.tc : Thread nD τ).loc main_arg0) (ix3 (bat t) (pos t r) k)) (fun k => m ((c.tc : Thread nD τ).loc main_arg1) (ix2 0 k)))
      (fun k => scol (fun j => m ((c.tc : Thread nD τ).loc main_arg2) (ix3 0 k j)) j) := by
  have q : k0_pay4 (iblk m c 0 t) (iblk m c 1 t) (iblk m c 3 t) (ix2 r j) = lin (rmsRow (fun k => m ((c.tc : Thread nD τ).loc main_arg0) (ix3 (bat t) (pos t r) k)) (fun k => m ((c.tc : Thread nD τ).loc main_arg1) (ix2 0 k)))
      (fun k => scol (fun j => m ((c.tc : Thread nD τ).loc main_arg2) (ix3 0 k j)) j) := by
    rw [small_apply]
    simp only [x_read, n_read, ws_read]
  by_cases c0 : t.val % 64 = 0
  · rw [outsAt0_A m c t c0]
    frame_out
    exact q
  · rw [outsAt0_B m c t c0]
    frame_out
    exact q

/-- What a convolved part is computed from. -/
theorem given (c : Dev nD) (t : Fin cfg0.N) (i : Fin 4) (o : ℕ) (ho : o + 768 ≤ 3072) (eo : o = 768 * i.val) (b : BitVec 1) (start : b = 1#1 ↔ t.val % 8 = 0) (v : Vec Ideal S4x8x768 .f32) (e : Past m c t v)
    (inb : ∀ a : Fin 2, (![0, o] : Fin 2 → ℕ) a + (![1024, 768] : Fin 2 → ℕ) a ≤ S1024x9984.size a)
    (inb0 : ∀ a : Fin 2, (![0, o] : Fin 2 → ℕ) a + (![1, 768] : Fin 2 → ℕ) a ≤ S4x3072.size a)
    (inb1 : ∀ a : Fin 2, (![1, o] : Fin 2 → ℕ) a + (![1, 768] : Fin 2 → ℕ) a ≤ S4x3072.size a)
    (inb2 : ∀ a : Fin 2, (![2, o] : Fin 2 → ℕ) a + (![1, 768] : Fin 2 → ℕ) a ≤ S4x3072.size a)
    (inb3 : ∀ a : Fin 2, (![3, o] : Fin 2 → ℕ) a + (![1, 768] : Fin 2 → ℕ) a ≤ S4x3072.size a)
    (inbp : ∀ a : Fin 3, (![i.val, 0, 0] : Fin 3 → ℕ) a + (![1, 8, 768] : Fin 3 → ℕ) a ≤ S4x8x768.size a) :
    Given m c t o ho (View.ld (Val := Elt Ideal) (S := S1024x9984) (e' := .bf16) (iblk m c 2 t) (Rect.unit (s := S1024x9984) ![0, o] ![1024, 768] inb))
      (View.ld (Val := Elt Ideal) (S := S4x3072) (e' := .f32) (iblk m c 4 t) (Rect.unit (s := S4x3072) ![0, o] ![1, 768] inb0))
      (View.ld (Val := Elt Ideal) (S := S4x3072) (e' := .f32) (iblk m c 4 t) (Rect.unit (s := S4x3072) ![1, o] ![1, 768] inb1))
      (View.ld (Val := Elt Ideal) (S := S4x3072) (e' := .f32) (iblk m c 4 t) (Rect.unit (s := S4x3072) ![2, o] ![1, 768] inb2))
      (View.ld (Val := Elt Ideal) (S := S4x3072) (e' := .f32) (iblk m c 4 t) (Rect.unit (s := S4x3072) ![3, o] ![1, 768] inb3)) b
      (View.ld (Val := Elt Ideal) (S := S4x8x768) (e' := .f32) v (Rect.unit (s := S4x8x768) ![i.val, 0, 0] ![1, 8, 768] inbp)) where
  weights := fun k j => cut_w (iblk m c 2 t) o (by omega) inb k j
  tap0 := fun j => cut_tap (iblk m c 4 t) 0 o ho inb0 j
  tap1 := fun j => cut_tap (iblk m c 4 t) 1 o ho inb1 j
  tap2 := fun j => cut_tap (iblk m c 4 t) 2 o ho inb2 j
  tap3 := fun j => cut_tap (iblk m c 4 t) 3 o ho inb3 j
  start := start
  past := fun h k j => by
    subst eo
    exact (cut_past v i inbp k j).trans (e.rows h i k j)

/-- The first point of all begins a sequence, so nothing is asked of the kept rows. -/
theorem past_first (c : Dev nD) (t : Fin cfg0.N) (e : t.val % 64 = 0) (v : Vec Ideal S4x8x768 .f32) : Past m c t v where
  rows := fun h => by omega

/-- At every other point the kept rows are those that the point before left. -/
theorem past_next (c : Dev nD) (t : Fin cfg0.N) (e : ¬ t.val % 64 = 0) (hp : t.val - 1 < cfg0.N) : Past m c t (outsAt0 m c (t.val - 1) hp).2.2 where
  rows := fun h i k j => by
    have := lt64 t
    rw [halo m c ⟨t.val - 1, hp⟩ i k j]
    refine congrArg₂ (fun b p => kcol m c b ⟨768 * i.val + j.val, by omega⟩ p) (Fin.ext ?_) (Fin.ext ?_)
    · show (t.val - 1) / 8 = t.val / 8
      omega
    · show (t.val - 1) % 8 * 512 + (504 + k.val) = t.val % 8 * 512 - 8 + k.val
      omega

/-- The kernel's test whether a sequence begins at a grid point. -/
theorem seq_start : ∀ t : Fin cfg0.N, (Scalar.cmpi .eq (Scalar.select (Scalar.andi (Scalar.xori (Scalar.cmpi .slt (Scalar.remsi (BitVec.ofNat 32 ↑(grid0.coords t 0)) 8#32) 0#32) 0#1) (Scalar.cmpi .ne (Scalar.remsi (BitVec.ofNat 32 ↑(grid0.coords t 0)) 8#32) 0#32)) (Scalar.addi (Scalar.remsi (BitVec.ofNat 32 ↑(grid0.coords t 0)) 8#32) 8#32) (Scalar.remsi (BitVec.ofNat 32 ↑(grid0.coords t 0)) 8#32)) 0#32 = 1#1 ↔ t.val % 8 = 0) :=
  (by decide +kernel : ∀ t : Fin 64, _)

set_option maxHeartbeats 2000000 in
/-- The large block: the whole of the layer's wide columns, part by part. -/
theorem large (c : Dev nD) (t : Fin cfg0.N) (r : Fin 512) (j : Fin 9984) :
    (outsAt0 m c t.val t.isLt).1 (ix2 r j) = big (kcol m c (bat t)) (taps m c) (pos t r) j := by
  have st := seq_start t
  by_cases c0 : t.val % 64 = 0
  case' pos =>
    have ps := past_first m c t c0 (k0_pay2 (F := Ideal))
    rw [outsAt0_A m c t c0]
    frame_open
    simp (disch := decide) only [↓ View.readCov_skip, ↓ View.readCov_fill]
    frame_out
    canon_tiles x h
  case' neg =>
    have ps := past_next m c t c0 (by omega)
    rw [outsAt0_B m c t c0]
    frame_open
    simp (disch := decide) only [↓ View.readCov_skip, ↓ View.readCov_fill]
    frame_out
    simp only [read_unread_whole]
    canon_tiles x h
  all_goals
    obtain ⟨r', j', rfl⟩ : ∃ (r' : Fin 512) (j' : Fin 768), x = ix2 r' j' := ⟨x 0, x 1, by pointwise⟩
    obtain rfl : r = r' := Fin.ext h0
  iterate 2
    case piece0 =>
      rw [show j = ⟨2304 + j'.val, by omega⟩ from Fin.ext h1]
      exact part3 m (given m c t 3 2304 (by decide) rfl _ st _ ps _ _ _ _ _ _) _ r j'
    case piece1 =>
      rw [show j = ⟨9216 + j'.val, by omega⟩ from Fin.ext h1]
      exact plain m c t 9216 (by decide) (by decide) _ r j' _ (plain_apply _ _ _ _).2.2.2.2
    case piece2 =>
      rw [show j = ⟨8448 + j'.val, by omega⟩ from Fin.ext h1]
      exact plain m c t 8448 (by decide) (by decide) _ r j' _ (plain_apply _ _ _ _).2.2.2.1
    case piece3 =>
      rw [show j = ⟨7680 + j'.val, by omega⟩ from Fin.ext h1]
      exact plain m c t 7680 (by decide) (by decide) _ r j' _ (plain_apply _ _ _ _).2.2.1
    case piece4 =>
      rw [show j = ⟨1536 + j'.val, by omega⟩ from Fin.ext h1]
      exact part2 m (given m c t 2 1536 (by decide) rfl _ st _ ps _ _ _ _ _ _) _ r j'
    case piece5 =>
      rw [show j = ⟨6912 + j'.val, by omega⟩ from Fin.ext h1]
      exact plain m c t 6912 (by decide) (by decide) _ r j' _ (plain_apply _ _ _ _).2.1.2
    case piece6 =>
      rw [show j = ⟨6144 + j'.val, by omega⟩ from Fin.ext h1]
      exact plain m c t 6144 (by decide) (by decide) _ r j' _ (plain_apply _ _ _ _).2.1.1
    case piece7 =>
      rw [show j = ⟨5376 + j'.val, by omega⟩ from Fin.ext h1]
      exact plain m c t 5376 (by decide) (by decide) _ r j' _ (plain_apply _ _ _ _).1.2.2
    case piece8 =>
      rw [show j = ⟨768 + j'.val, by omega⟩ from Fin.ext h1]
      exact part1 m (given m c t 1 768 (by decide) rfl _ st _ ps _ _ _ _ _ _) _ r j'
    case piece9 =>
      rw [show j = ⟨4608 + j'.val, by omega⟩ from Fin.ext h1]
      exact plain m c t 4608 (by decide) (by decide) _ r j' _ (plain_apply _ _ _ _).1.2.1
    case piece10 =>
      rw [show j = ⟨3840 + j'.val, by omega⟩ from Fin.ext h1]
      exact plain m c t 3840 (by decide) (by decide) _ r j' _ (plain_apply _ _ _ _).1.1.2
    case piece11 =>
      rw [show j = ⟨3072 + j'.val, by omega⟩ from Fin.ext h1]
      exact plain m c t 3072 (by decide) (by decide) _ r j' _ (plain_apply _ _ _ _).1.1.1
    case piece12 =>
      rw [show j = ⟨0 + j'.val, by omega⟩ from Fin.ext (h1.trans (Nat.zero_add _).symm)]
      exact part0 m (given m c t 0 0 (by decide) rfl _ st _ ps _ _ _ _ _ _) _ r j'

end Cert.Kernel3Ideal.RefValue

end
-- ==== Proof.ProjRef.lean ====
/- The input projection's reference, entry by entry. -/
module

public import proofs.«01_k».proof.Proof.ProjSpec
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Reference3Ideal.RefValue

open Cert.Reference3Ideal Cert.Reference3Ideal.Gen Cert.Reference3Ideal.Value Idealize.ShloMosaic Idealize.ShloMosaic.TcCoe Cert.ProjSpec Cert.Rows

variable (V : Valuation τ sig (Elt Ideal))

abbrev xArg (b : Fin 8) (t : Fin 4096) (k : Fin 1024) : EReal := V (Proc.devRef .tc main_arg0) (ix3 b t k)
abbrev nArg (k : Fin 1024) : EReal := V (Proc.devRef .tc main_arg1) (ix2 0 k)
abbrev wArg (k : Fin 1024) (j : Fin 7768) : EReal := V (Proc.devRef .tc main_arg2) (ix3 0 k j)
abbrev cArg (i : Fin 4) (j : Fin 3072) : EReal := V (Proc.devRef .tc main_arg3) (ix3 0 i j)
abbrev gArg (k : Fin 1024) (j : Fin 2048) : EReal := V (Proc.devRef .tc main_arg4) (ix3 0 k j)

/-- The gate weights as they are given. -/
abbrev gates : FVec Ideal S1x1024x2048 .f32 := V (Proc.devRef .tc main_arg4)

/-- The normalised rows. -/
theorem norm_apply (b : Fin 8) (t : Fin 4096) (k : Fin 1024) :
    res_main_v13 V (ix3 b t k) = rmsRow (xArg V b t) (nArg V) k := by
  unfold res_main_v13 rmsRow
  pointwise

/-- The input projection. -/
theorem proj_apply (b : Fin 8) (t : Fin 4096) (j : Fin 7768) :
    res_main_v15 V (ix3 b t j) = lin (rmsRow (xArg V b t) (nArg V)) (fun k => wArg V k j) := by
  unfold res_main_v15 lin
  pointwise [norm_apply]

/-- The padded rows: three rows of zeros, then the first 3072 columns of the projection. -/
theorem pad_apply (b : Fin 8) (d : ℕ) (hd : d < 4) (t : Fin 4096) (j : Fin 3072) :
    res_main_v26 V (ix3 b ⟨d + t.val, by omega⟩ j)
      = tap (fun t => res_main_v15 V (ix3 b t ⟨j.val, by omega⟩)) t (3 - d) := by
  unfold res_main_v26
  pointwise
  unfold tap
  repeat' split
  all_goals first
    | (exfalso; omega)
    | exact congrArg _ (congrArg₂ (ix3 b) (Fin.ext (by dsimp only <;> omega)) (Fin.ext (by dsimp only <;> omega)))
    | simp [FloatOps.sitofp]

/-- One channel of the convolution. -/
theorem conv_apply (b : Fin 8) (t : Fin 4096) (j : Fin 3072) :
    res_main_v54 V (ix3 b t j)
      = conv (fun t => res_main_v15 V (ix3 b t ⟨j.val, by omega⟩)) (fun i => cArg V i j) t := by
  have e0 := pad_apply V b 0 (by omega) t j
  have e1 := pad_apply V b 1 (by omega) t j
  have e2 := pad_apply V b 2 (by omega) t j
  have e3 := pad_apply V b 3 (by omega) t j
  simp only [Nat.zero_add, Nat.sub_zero, Nat.reduceSub, tap_zero] at e0 e1 e2 e3
  unfold res_main_v54 res_main_v27 conv
  pointwise [e0, e1, e2, e3]

/-- One channel after SiLU. -/
theorem act_apply (b : Fin 8) (t : Fin 4096) (j : Fin 3072) :
    res_main_v55 V (ix3 b t j)
      = act (fun t => res_main_v15 V (ix3 b t ⟨j.val, by omega⟩)) (fun i => cArg V i j) t := by
  unfold res_main_v55 act Ideal.logistic
  pointwise [conv_apply]

theorem q_apply (b : Fin 8) (t : Fin 4096) (g : Fin 8) (l : Fin 128) :
    res_main_v59 V (ix4 b t g l)
      = act (fun t => res_main_v15 V (ix3 b t ⟨g.val * 128 + l.val, by omega⟩)) (fun i => cArg V i ⟨g.val * 128 + l.val, by omega⟩) t := by
  unfold res_main_v59
  pointwise [act_apply]

theorem k_apply (b : Fin 8) (t : Fin 4096) (g : Fin 8) (l : Fin 128) :
    res_main_v71 V (ix4 b t g l)
      = act (fun t => res_main_v15 V (ix3 b t ⟨1024 + (g.val * 128 + l.val), by omega⟩)) (fun i => cArg V i ⟨1024 + (g.val * 128 + l.val), by omega⟩) t := by
  unfold res_main_v71
  pointwise [act_apply]

/-- The gates' logits. -/
def gl : FVec Ideal S8x4096x2048 .f32 := Host.dotGeneral (φ₁ := .f32) (φ₂ := .f32) dot_S8x4096x1024_S1024x2048_S8x4096x2048_2_0_01_1_n_n none (res_main_v13 V) (shapeCast S1024x2048 (gates V) shapeCasts_S1x1024x2048_S1024x2048)

theorem gl_apply (b : Fin 8) (t : Fin 4096) (j : Fin 2048) :
    gl V (ix3 b t j) = lin (rmsRow (xArg V b t) (nArg V)) (fun k => gArg V k j) := by
  unfold gl lin
  pointwise [norm_apply]

/-- The small result over the arguments. -/
def smallOut : FVec Ideal S32768x128 .f32 :=
  shapeCast _ ((concatenate S8x4096x128 2 [⟨S8x4096x8, ((extractStridedSlice S8x4096x8 ![0, 0, 4096] (res_main_v15 V) slices_S8x4096x7768_S8x4096x8_0_0_4096) : (⟨S8x4096x8, .f32⟩ : BufTy).Contents (Elt Ideal))⟩, ⟨S8x4096x8, ((extractStridedSlice S8x4096x8 ![0, 0, 4104] (res_main_v15 V) slices_S8x4096x7768_S8x4096x8_0_0_4104) : (⟨S8x4096x8, .f32⟩ : BufTy).Contents (Elt Ideal))⟩, ⟨S8x4096x8, ((extractStridedSlice S8x4096x8 ![0, 0, 7760] (res_main_v15 V) slices_S8x4096x7768_S8x4096x8_0_0_7760) : (⟨S8x4096x8, .f32⟩ : BufTy).Contents (Elt Ideal))⟩, ⟨S8x4096x104, ((broadcastInDim S8x4096x104 ![] bcast_S_S8x4096x104 (constant (F := Ideal) S_ .f32 0x00000000#32)) : (⟨S8x4096x104, .f32⟩ : BufTy).Contents (Elt Ideal))⟩] concatenates_S8x4096x8_S8x4096x8_S8x4096x8_S8x4096x104_S8x4096x128_d2 : (⟨S8x4096x128, .f32⟩ : BufTy).Contents (Elt Ideal))) shapeCasts_S8x4096x128_S32768x128

theorem smallOut_apply (b : Fin 8) (t : Fin 4096) (j : Fin 128) :
    smallOut V (ix2 ⟨b.val * 4096 + t.val, by omega⟩ j)
      = lin (rmsRow (xArg V b t) (nArg V)) (fun k => scol (wArg V k) j) := by
  unfold smallOut
  pointwise [proj_apply]
  unfold scol
  repeat' split
  all_goals first
    | (exfalso; omega)
    | exact (lin_zero _).symm
    | exact congrArg _ (funext fun k => congrArg _ (Fin.ext (by dsimp only <;> omega)))

end Cert.Reference3Ideal.RefValue

end
-- ==== Proof.ProjRefBig.lean ====
/- The input projection's reference, entry by entry. -/
module

public import proofs.«01_k».proof.Proof.ProjRef

@[expose] public section

set_option maxRecDepth 16384

noncomputable section

namespace Cert.Reference3Ideal.RefValue

open Cert.Reference3Ideal Cert.Reference3Ideal.Gen Cert.Reference3Ideal.Value Idealize.ShloMosaic Idealize.ShloMosaic.TcCoe Cert.ProjSpec Cert.Rows

variable (V : Valuation τ sig (Elt Ideal))

/-- Every head of `x` divided by its Euclidean norm. -/
def normed (x : FVec Ideal S8x4096x8x128 .f32) : FVec Ideal S8x4096x8x128 .f32 := mulf x (broadcastInDim S8x4096x8x128 ![0, 1, 2, 3] bcast_S8x4096x8x1_S8x4096x8x128_0_1_2_3 (Host.rsqrt (addf (broadcastInDim S8x4096x8x1 ![0, 1, 2] bcast_S8x4096x8_S8x4096x8x1_0_1_2 (Host.reduceAdd (mulf x x) (constant (F := Ideal) S_ .f32 0x00000000#32) reducesTo_S8x4096x8x128_S8x4096x8_d3 h_S_)) (broadcastInDim S8x4096x8x1 ![] bcast_S_S8x4096x8x1 (constant (F := Ideal) S_ .f32 0x358637BD#32)))))

theorem normed_apply (x : FVec Ideal S8x4096x8x128 .f32) (b : Fin 8) (t : Fin 4096) (g : Fin 8) (l : Fin 128) :
    normed x (ix4 b t g l) = x (ix4 b t g l) * invNorm (fun l => x (ix4 b t g l)) := by
  unfold normed invNorm
  pointwise

/-- Every entry of `x` times the scale of the queries. -/
def scaled (x : FVec Ideal S8x4096x8x128 .f32) : FVec Ideal S8x4096x8x128 .f32 := mulf x (broadcastInDim S8x4096x8x128 ![] bcast_S_S8x4096x8x128 (constant (F := Ideal) S_ .f32 0x3DB504F3#32))

theorem scaled_apply (x : FVec Ideal S8x4096x8x128 .f32) (b : Fin 8) (t : Fin 4096) (g : Fin 8) (l : Fin 128) :
    scaled x (ix4 b t g l) = x (ix4 b t g l) * Ideal.ofBits FTy.f32 0x3DB504F3#32 := by
  unfold scaled
  pointwise

/-- Heads side by side. -/
theorem flat_apply (x : FVec Ideal S8x4096x8x128 .f32) (b : Fin 8) (t : Fin 4096) (g : Fin 8) (l : Fin 128) :
    (shapeCast S8x4096x1024 x shapeCasts_S8x4096x8x128_S8x4096x1024) (ix3 b t ⟨g.val * 128 + l.val, by omega⟩) = x (ix4 b t g l) := by
  pointwise

/-- The normalised and scaled queries. -/
def qn : FVec Ideal S8x4096x1024 .f32 := shapeCast S8x4096x1024 (scaled (normed (res_main_v59 V))) shapeCasts_S8x4096x8x128_S8x4096x1024

/-- The normalised keys. -/
def kn : FVec Ideal S8x4096x1024 .f32 := shapeCast S8x4096x1024 (normed (res_main_v71 V)) shapeCasts_S8x4096x8x128_S8x4096x1024

/-- The activations of the first mixer. -/
def mixerA : FVec Ideal S8x4096x4096 .f32 :=
  concatenate S8x4096x4096 2 [⟨S8x4096x1024, qn V⟩, ⟨S8x4096x1024, kn V⟩, ⟨S8x4096x1024, extractStridedSlice S8x4096x1024 ![0, 0, 2048] (res_main_v55 V) slices_S8x4096x3072_S8x4096x1024_0_0_2048⟩, ⟨S8x4096x1024, extractStridedSlice S8x4096x1024 ![0, 0, 3072] (res_main_v15 V) slices_S8x4096x7768_S8x4096x1024_0_0_3072⟩] concatenates_S8x4096x1024_S8x4096x1024_S8x4096x1024_S8x4096x1024_S8x4096x4096_d2

/-- The indexer's keys, with zeros between the two copies. -/
def indexK : FVec Ideal S8x4096x256 .f32 :=
  concatenate S8x4096x256 2 [⟨S8x4096x64, res_main_v23 V⟩, ⟨S8x4096x64, res_main_v83 V⟩, ⟨S8x4096x64, res_main_v83 V⟩, ⟨S8x4096x64, res_main_v23 V⟩] concatenates_S8x4096x64_S8x4096x64_S8x4096x64_S8x4096x64_S8x4096x256_d2

/-- The large result over the arguments. -/
def bigOut : FVec Ideal S32768x9984 .bf16 :=
  truncf .bf16 (shapeCast S32768x9984 (concatenate S8x4096x9984 2 [⟨S8x4096x4096, mixerA V⟩, ⟨S8x4096x2048, gl V⟩, ⟨S8x4096x3584, extractStridedSlice S8x4096x3584 ![0, 0, 4112] (res_main_v15 V) slices_S8x4096x7768_S8x4096x3584_0_0_4112⟩, ⟨S8x4096x256, indexK V⟩] concatenates_S8x4096x4096_S8x4096x2048_S8x4096x3584_S8x4096x256_S8x4096x9984_d2) shapeCasts_S8x4096x9984_S32768x9984) bitsLt_bf16_f32

/-- The columns of the projection that the large result's first 3072 columns are made of. -/
abbrev ycol (b : Fin 8) (j : Fin 9984) (t : Fin 4096) : EReal := lin (rmsRow (xArg V b t) (nArg V)) (fun k => wcol (wArg V k) (gArg V k) j)

theorem proj_ycol (b : Fin 8) (t : Fin 4096) (j : ℕ) (hj : j < 4096) : res_main_v15 V (ix3 b t ⟨j, by omega⟩) = ycol V b ⟨j, by omega⟩ t := by
  rw [proj_apply]
  unfold ycol wcol
  simp only [dif_pos hj]

/-- A normalised and scaled query is the large result's. -/
theorem qn_apply (b : Fin 8) (t : Fin 4096) (j : Fin 1024) :
    qn V (ix3 b t j) = big (ycol V b) (cArg V) t ⟨j.val, by omega⟩ := by
  obtain ⟨g, l, rfl⟩ : ∃ (g : Fin 8) (l : Fin 128), j = ⟨g.val * 128 + l.val, by omega⟩ :=
    ⟨⟨j.val / 128, by omega⟩, ⟨j.val % 128, by omega⟩, Fin.ext (by show j.val = j.val / 128 * 128 + j.val % 128; omega)⟩
  have e : ∀ l' : Fin 128, headCol (g.val * 128 + l.val) l' = g.val * 128 + l'.val := fun l' => by unfold headCol; omega
  have p : ∀ l' : Fin 128, res_main_v59 V (ix4 b t g l') = act (ycol V b ⟨g.val * 128 + l'.val, by omega⟩) (fun i => cArg V i ⟨g.val * 128 + l'.val, by omega⟩) t := fun l' => by
    rw [q_apply]
    exact congrFun (congrFun (congrArg act (funext fun t => proj_ycol V b t _ (by omega))) _) _
  unfold qn big
  rw [flat_apply, scaled_apply, normed_apply]
  simp only [p, e, dif_pos (show g.val * 128 + l.val < 3072 by omega), dif_pos (show g.val * 128 + l.val < 2048 by omega),
    if_pos (show g.val * 128 + l.val < 1024 by omega), mul_assoc]

/-- A normalised key is the large result's. -/
theorem kn_apply (b : Fin 8) (t : Fin 4096) (j : Fin 1024) :
    kn V (ix3 b t j) = big (ycol V b) (cArg V) t ⟨1024 + j.val, by omega⟩ := by
  obtain ⟨g, l, rfl⟩ : ∃ (g : Fin 8) (l : Fin 128), j = ⟨g.val * 128 + l.val, by omega⟩ :=
    ⟨⟨j.val / 128, by omega⟩, ⟨j.val % 128, by omega⟩, Fin.ext (by show j.val = j.val / 128 * 128 + j.val % 128; omega)⟩
  have e : ∀ l' : Fin 128, headCol (1024 + (g.val * 128 + l.val)) l' = 1024 + (g.val * 128 + l'.val) := fun l' => by unfold headCol; omega
  have p : ∀ l' : Fin 128, res_main_v71 V (ix4 b t g l') = act (ycol V b ⟨1024 + (g.val * 128 + l'.val), by omega⟩) (fun i => cArg V i ⟨1024 + (g.val * 128 + l'.val), by omega⟩) t := fun l' => by
    rw [k_apply]
    exact congrFun (congrFun (congrArg act (funext fun t => proj_ycol V b t _ (by omega))) _) _
  unfold kn big
  rw [flat_apply, normed_apply]
  simp only [p, e, dif_pos (show 1024 + (g.val * 128 + l.val) < 3072 by omega), dif_pos (show 1024 + (g.val * 128 + l.val) < 2048 by omega),
    if_neg (show ¬ 1024 + (g.val * 128 + l.val) < 1024 by omega)]

/-- Four parts of 1024 columns side by side. -/
theorem cat1024 (x0 x1 x2 x3 : FVec Ideal S8x4096x1024 .f32) (b : Fin 8) (t : Fin 4096) (j : Fin 4096) :
    (concatenate S8x4096x4096 2 [⟨S8x4096x1024, x0⟩, ⟨S8x4096x1024, x1⟩, ⟨S8x4096x1024, x2⟩, ⟨S8x4096x1024, x3⟩] concatenates_S8x4096x1024_S8x4096x1024_S8x4096x1024_S8x4096x1024_S8x4096x4096_d2 : FVec Ideal S8x4096x4096 .f32) (ix3 b t j)
      = if h : j.val < 1024 then x0 (ix3 b t ⟨j.val, h⟩)
        else if h : j.val < 2048 then x1 (ix3 b t ⟨j.val - 1024, by omega⟩)
        else if h : j.val < 3072 then x2 (ix3 b t ⟨j.val - 2048, by omega⟩)
        else x3 (ix3 b t ⟨j.val - 3072, by omega⟩) := by
  pointwise
  repeat' split
  all_goals first
    | (exfalso; omega)
    | rfl
    | exact congrArg _ (congrArg (ix3 b t) (Fin.ext (by dsimp only <;> omega)))

/-- Four parts of 64 columns side by side. -/
theorem cat64 (x0 x1 x2 x3 : FVec Ideal S8x4096x64 .f32) (b : Fin 8) (t : Fin 4096) (j : Fin 256) :
    (concatenate S8x4096x256 2 [⟨S8x4096x64, x0⟩, ⟨S8x4096x64, x1⟩, ⟨S8x4096x64, x2⟩, ⟨S8x4096x64, x3⟩] concatenates_S8x4096x64_S8x4096x64_S8x4096x64_S8x4096x64_S8x4096x256_d2 : FVec Ideal S8x4096x256 .f32) (ix3 b t j)
      = if h : j.val < 64 then x0 (ix3 b t ⟨j.val, h⟩)
        else if h : j.val < 128 then x1 (ix3 b t ⟨j.val - 64, by omega⟩)
        else if h : j.val < 192 then x2 (ix3 b t ⟨j.val - 128, by omega⟩)
        else x3 (ix3 b t ⟨j.val - 192, by omega⟩) := by
  pointwise
  repeat' split
  all_goals first
    | (exfalso; omega)
    | rfl
    | exact congrArg _ (congrArg (ix3 b t) (Fin.ext (by dsimp only <;> omega)))

/-- The four groups of columns of the large result side by side. -/
theorem catBig (x0 : FVec Ideal S8x4096x4096 .f32) (x1 : FVec Ideal S8x4096x2048 .f32) (x2 : FVec Ideal S8x4096x3584 .f32) (x3 : FVec Ideal S8x4096x256 .f32) (b : Fin 8) (t : Fin 4096) (j : Fin 9984) :
    (truncf .bf16 (shapeCast S32768x9984 (concatenate S8x4096x9984 2 [⟨S8x4096x4096, x0⟩, ⟨S8x4096x2048, x1⟩, ⟨S8x4096x3584, x2⟩, ⟨S8x4096x256, x3⟩] concatenates_S8x4096x4096_S8x4096x2048_S8x4096x3584_S8x4096x256_S8x4096x9984_d2) shapeCasts_S8x4096x9984_S32768x9984) bitsLt_bf16_f32 : FVec Ideal S32768x9984 .bf16) (ix2 ⟨b.val * 4096 + t.val, by omega⟩ j)
      = if h : j.val < 4096 then x0 (ix3 b t ⟨j.val, h⟩)
        else if h : j.val < 6144 then x1 (ix3 b t ⟨j.val - 4096, by omega⟩)
        else if h : j.val < 9728 then x2 (ix3 b t ⟨j.val - 6144, by omega⟩)
        else x3 (ix3 b t ⟨j.val - 9728, by omega⟩) := by
  pointwise
  repeat' split
  all_goals first
    | (exfalso; omega)
    | exact congrArg _ (congrArg (ix3 b t) (Fin.ext (by dsimp only <;> omega)))

/-- From column 3072 on the large result is the projection. -/
theorem big_plain (y : Fin 9984 → Fin 4096 → EReal) (w : Fin 4 → Fin 3072 → EReal) (t : Fin 4096) (j : Fin 9984) (h : ¬ j.val < 3072) :
    big y w t j = y j t := by
  unfold big
  rw [dif_neg h]

/-- Columns 2048 to 3071 of the large result are convolved and passed through SiLU. -/
theorem big_value (y : Fin 9984 → Fin 4096 → EReal) (w : Fin 4 → Fin 3072 → EReal) (t : Fin 4096) (j : Fin 9984) (h : j.val < 3072) (h2 : ¬ j.val < 2048) :
    big y w t j = act (y j) (fun i => w i ⟨j.val, h⟩) t := by
  unfold big
  rw [dif_pos h, dif_neg h2]

/-- The first mixer's columns. -/
theorem mixerA_apply (b : Fin 8) (t : Fin 4096) (j : Fin 4096) :
    mixerA V (ix3 b t j) = big (ycol V b) (cArg V) t ⟨j.val, by omega⟩ := by
  unfold mixerA
  rw [cat1024]
  split
  · exact qn_apply V b t _
  split
  · rw [kn_apply]
    exact congrArg _ (Fin.ext (by dsimp only; omega))
  split
  · rw [big_value _ _ _ _ (by dsimp only; omega) (by dsimp only; omega)]
    pointwise [act_apply]
    exact congrFun (congrArg₂ act (funext fun t => (proj_ycol V b t (2048 + (j.val - 2048)) (by omega)).trans (congrFun (congrArg _ (Fin.ext (by dsimp only; omega))) t)) (funext fun i => congrArg _ (Fin.ext (by dsimp only; omega)))) t
  · rw [big_plain _ _ _ _ (by dsimp only; omega)]
    pointwise
    exact (proj_ycol V b t (3072 + (j.val - 3072)) (by omega)).trans (congrFun (congrArg _ (Fin.ext (by dsimp only; omega))) t)

/-- The indexer's keys. -/
theorem indexK_apply (b : Fin 8) (t : Fin 4096) (j : Fin 256) :
    indexK V (ix3 b t j) = ycol V b ⟨9728 + j.val, by omega⟩ t := by
  unfold indexK res_main_v23 res_main_v83
  rw [cat64]
  split
  · pointwise [proj_apply]
    refine congrArg (lin _) (funext fun k => ?_)
    unfold wcol
    repeat' split
    all_goals first
      | (exfalso; omega)
      | (exfalso; dsimp only at *; omega)
      | with_reducible rfl
      | exact congrArg _ (Fin.ext (by dsimp only <;> omega))
  split
  · pointwise
    rw [← lin_zero (rmsRow (xArg V b t) (nArg V))]
    refine congrArg (lin _) (funext fun k => ?_)
    unfold wcol
    repeat' split
    all_goals first
      | (exfalso; omega)
      | (exfalso; dsimp only at *; omega)
      | with_reducible rfl
      | exact congrArg _ (Fin.ext (by dsimp only <;> omega))
  split
  · pointwise
    rw [← lin_zero (rmsRow (xArg V b t) (nArg V))]
    refine congrArg (lin _) (funext fun k => ?_)
    unfold wcol
    repeat' split
    all_goals first
      | (exfalso; omega)
      | (exfalso; dsimp only at *; omega)
      | with_reducible rfl
      | exact congrArg _ (Fin.ext (by dsimp only <;> omega))
  · pointwise [proj_apply]
    refine congrArg (lin _) (funext fun k => ?_)
    unfold wcol
    repeat' split
    all_goals first
      | (exfalso; omega)
      | (exfalso; dsimp only at *; omega)
      | with_reducible rfl
      | exact congrArg _ (Fin.ext (by dsimp only <;> omega))

/-- The large result, entry by entry. -/
theorem bigOut_apply (b : Fin 8) (t : Fin 4096) (j : Fin 9984) :
    bigOut V (ix2 ⟨b.val * 4096 + t.val, by omega⟩ j) = big (ycol V b) (cArg V) t j := by
  unfold bigOut
  rw [catBig]
  split
  · exact mixerA_apply V b t _
  rw [big_plain _ _ _ _ (by omega)]
  split
  · rw [gl_apply]
    refine congrArg (lin _) (funext fun k => ?_)
    unfold wcol
    repeat' split
    all_goals first
      | (exfalso; omega)
      | (exfalso; dsimp only at *; omega)
      | with_reducible rfl
      | exact congrArg _ (Fin.ext (by dsimp only <;> omega))
  split
  · pointwise [proj_apply]
    refine congrArg (lin _) (funext fun k => ?_)
    unfold wcol
    repeat' split
    all_goals first
      | (exfalso; omega)
      | (exfalso; dsimp only at *; omega)
      | with_reducible rfl
      | exact congrArg _ (Fin.ext (by dsimp only <;> omega))
  · rw [indexK_apply]
    exact congrFun (congrArg _ (Fin.ext (by dsimp only; omega))) t

end Cert.Reference3Ideal.RefValue

end
-- ==== Proof.ProjFinal.lean ====
/- The input projection: the arrays that the launch leaves are the reference's two results. -/
module

public import proofs.«01_k».proof.Proof.ProjPoint
public import proofs.«01_k».proof.Proof.ProjRefBig

@[expose] public section

set_option maxRecDepth 16384

noncomputable section

namespace Cert.Kernel3Ideal.RefValue

open Cert.Kernel3Ideal Cert.Kernel3Ideal.Gen Idealize.ShloMosaic Idealize.ShloMosaic.TcCoe Cert.ProjSpec Cert.Rows

variable (m : (ℓ : Loc nD τ sig) → Buf (Elt Ideal) ℓ)

/-- Contents of the reference's arguments that are those of the kernel's. -/
structure Same (c : Dev nD) (V : Valuation Cert.Reference3Ideal.τ Cert.Reference3Ideal.sig (Elt Ideal)) : Prop where
  xEq : V (Proc.devRef .tc Cert.Reference3Ideal.main_arg0) = m ((c.tc : Thread nD τ).loc main_arg0)
  nEq : V (Proc.devRef .tc Cert.Reference3Ideal.main_arg1) = m ((c.tc : Thread nD τ).loc main_arg1)
  wEq : V (Proc.devRef .tc Cert.Reference3Ideal.main_arg2) = m ((c.tc : Thread nD τ).loc main_arg2)
  cEq : V (Proc.devRef .tc Cert.Reference3Ideal.main_arg3) = m ((c.tc : Thread nD τ).loc main_arg3)
  gEq : V (Proc.devRef .tc Cert.Reference3Ideal.main_arg4) = m ((c.tc : Thread nD τ).loc main_arg4)

variable {m} {c : Dev nD} {V : Valuation Cert.Reference3Ideal.τ Cert.Reference3Ideal.sig (Elt Ideal)}

/-- The reference's wide result at a row of a grid point's block. -/
theorem big_same (e : Same m c V) (t : Fin cfg0.N) (r : Fin 512) (j : Fin 9984) :
    Cert.Reference3Ideal.RefValue.bigOut V (ix2 ⟨(bat t).val * 4096 + (pos t r).val, by omega⟩ j) = big (kcol m c (bat t)) (taps m c) (pos t r) j := by
  rw [Cert.Reference3Ideal.RefValue.bigOut_apply]
  delta Cert.Reference3Ideal.RefValue.ycol Cert.Reference3Ideal.RefValue.xArg Cert.Reference3Ideal.RefValue.nArg Cert.Reference3Ideal.RefValue.wArg Cert.Reference3Ideal.RefValue.cArg Cert.Reference3Ideal.RefValue.gArg
  beta_reduce
  rw [e.xEq, e.nEq, e.wEq, e.cEq, e.gEq]
  rfl

/-- The reference's narrow result at a row of a grid point's block. -/
theorem small_same (e : Same m c V) (t : Fin cfg0.N) (r : Fin 512) (j : Fin 128) :
    Cert.Reference3Ideal.RefValue.smallOut V (ix2 ⟨(bat t).val * 4096 + (pos t r).val, by omega⟩ j) = (outsAt0 m c t.val t.isLt).2.1 (ix2 r j) := by
  rw [Cert.Reference3Ideal.RefValue.smallOut_apply, small]
  delta Cert.Reference3Ideal.RefValue.xArg Cert.Reference3Ideal.RefValue.nArg Cert.Reference3Ideal.RefValue.wArg
  beta_reduce
  rw [e.xEq, e.nEq, e.wEq]

/-- The wide array that the launch leaves is the reference's. -/
theorem final5 (e : Same m c V) : (dats m 0 c).arrAt 5 (cfgs 0).N = Cert.Reference3Ideal.RefValue.bigOut V := by
  refine (dats m 0 c).arrAt_eq_of_covers 5 _ (by decide +kernel) fun t _ y => ?_
  blk_simp
  rw [after0_5]
  obtain ⟨r, j, rfl⟩ : ∃ (r : Fin 512) (j : Fin 9984), y = ix2 r j := ⟨y 0, y 1, by pointwise⟩
  have := lt64 t
  have q : ((cfg0.win 5).blk t).view.emb (ix2 r j) = ix2 ⟨(bat t).val * 4096 + (pos t r).val, by omega⟩ j := by
    unfold bat pos; blk_ext [idx t]
  rw [q]
  exact (large m c t r j).trans (big_same e t r j).symm

/-- The narrow array that the launch leaves is the reference's. -/
theorem final6 (e : Same m c V) : (dats m 0 c).arrAt 6 (cfgs 0).N = Cert.Reference3Ideal.RefValue.smallOut V := by
  refine (dats m 0 c).arrAt_eq_of_covers 6 _ (by decide +kernel) fun t _ y => ?_
  blk_simp
  rw [after0_6]
  obtain ⟨r, j, rfl⟩ : ∃ (r : Fin 512) (j : Fin 128), y = ix2 r j := ⟨y 0, y 1, by pointwise⟩
  have := lt64 t
  have q : ((cfg0.win 6).blk t).view.emb (ix2 r j) = ix2 ⟨(bat t).val * 4096 + (pos t r).val, by omega⟩ j := by
    unfold bat pos; blk_ext [idx t]
  rw [q]
  exact (small_same e t r j).symm

end Cert.Kernel3Ideal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.GdnRef
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Mlp
public import proofs.«01_k».proof.Proof.Merge
public import proofs.«01_k».proof.Proof.ProjFinal
public import Idealize.ShloMosaic.Lib.Quiescent
public import Idealize.ShloMosaic.Adequacy
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import Idealize.ShloMosaic.Init

@[expose] public section

noncomputable section

namespace Cert.Proof

open Idealize.ShloMosaic Idealize.SL.Sem

/-- The MLP's launch leaves the reference's result. -/
theorem algebraic_mlp : Cert.algebraic_Kernel2Ideal_Reference2Ideal := by
  pair_intro
  · run_from Cert.Kernel2Ideal.Gen.run_main m g
  · run_from Cert.Reference2Ideal.Value.run m' g'
    rw [Cert.Kernel2Ideal.RefValue.final]
    refine (Cert.Reference2Ideal.RefValue.res_eq m' _).trans ?_
    obtain ⟨h0, h1, h2, h3, h4⟩ := hagree ‹_›
    rw [h0, h1, h2, h3, h4]

/-- The merge's launch leaves the reference's result. -/
theorem algebraic_merge : Cert.algebraic_Kernel4Ideal_Reference4Ideal := by
  pair_intro
  · run_from Cert.Kernel4Ideal.Gen.run_main m g
  · run_from Cert.Reference4Ideal.Value.run m' g'
    exact (Cert.Kernel4Ideal.RefValue.final m _).symm

/-- The projection's launch leaves the reference's two results. -/
theorem algebraic_proj : Cert.algebraic_Kernel3Ideal_Reference3Ideal := by
  pair_intro
  · run_from Cert.Kernel3Ideal.Gen.run_main m g
  · refine (θ_run Cert.Reference3Ideal.defs _ _).mono (fun r h c => ?_) (Cert.Reference3Ideal.Value.run m' g')
    obtain ⟨e0, e1, e2, e3, e4⟩ := hagree c
    have e : Cert.Kernel3Ideal.RefValue.Same m c (StableHlo.launchContents m' c) := ⟨e0, e1, e2, e3, e4⟩
    exact ⟨(h c).1.trans (Cert.Kernel3Ideal.RefValue.final5 e).symm, (h c).2.1.trans (Cert.Kernel3Ideal.RefValue.final6 e).symm, (h c).2.2⟩

/-- The gated delta rule's reference terminates, its arguments unchanged; it declares no semaphore. -/
theorem frame_ref : Cert.quiescent_ReferenceIdeal := fun m ρ _ =>
  (θ_run Cert.ReferenceIdeal.defs _ _).mono (fun r h => ⟨fun c => ⟨h c _ (by simp), h c _ (by simp), h c _ (by simp), h c _ (by simp), h c _ (by simp)⟩, sem_eq_zero_of_no_sems rfl r.2⟩)
    (Cert.ReferenceIdeal.Value.run_args m ρ)

/-- The MLP's reference terminates, its arguments unchanged; it declares no semaphore. -/
theorem frame_ref2 : Cert.quiescent_Reference2Ideal := fun m ρ _ =>
  (θ_run Cert.Reference2Ideal.defs _ _).mono (fun r h => ⟨fun c => (h c).2, sem_eq_zero_of_no_sems rfl r.2⟩) (Cert.Reference2Ideal.Value.run m ρ)

/-- The merge's reference terminates, its arguments unchanged; it declares no semaphore. -/
theorem frame_ref4 : Cert.quiescent_Reference4Ideal := fun m ρ _ =>
  (θ_run Cert.Reference4Ideal.defs _ _).mono (fun r h => ⟨fun c => (h c).2, sem_eq_zero_of_no_sems rfl r.2⟩) (Cert.Reference4Ideal.Value.run m ρ)

/-- The projection's reference terminates, its arguments unchanged; it declares no semaphore. -/
theorem frame_ref3 : Cert.quiescent_Reference3Ideal := fun m ρ _ =>
  (θ_run Cert.Reference3Ideal.defs _ _).mono (fun r h => ⟨fun c => (h c).2.2, sem_eq_zero_of_no_sems rfl r.2⟩) (Cert.Reference3Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel4.Gen.facts, Cert.Kernel4Ideal.Gen.facts, Cert.Reference4Ideal.Gen.facts, Cert.Kernel3.Gen.facts, Cert.Kernel3Ideal.Gen.facts, Cert.Reference3Ideal.Gen.facts,
  fun m ρ _ => Cert.Kernel.Gen.frame m ρ, fun m ρ _ => Cert.KernelIdeal.Gen.frame m ρ, frame_ref,
  fun m ρ _ => Cert.Kernel2.Gen.frame m ρ, fun m ρ _ => Cert.Kernel2Ideal.Gen.frame m ρ, frame_ref2,
  fun m ρ _ => Cert.Kernel4.Gen.frame m ρ, fun m ρ _ => Cert.Kernel4Ideal.Gen.frame m ρ, frame_ref4,
  fun m ρ _ => Cert.Kernel3.Gen.frame m ρ, fun m ρ _ => Cert.Kernel3Ideal.Gen.frame m ρ, frame_ref3,
  trivial, trivial, algebraic_mlp, trivial, algebraic_merge, trivial, algebraic_proj⟩

end Cert.Proof

end
